-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S512x2048 : Shape := ⟨2, ![512, 2048]⟩
abbrev S2048x512 : Shape := ⟨2, ![2048, 512]⟩
abbrev S_ : Shape := ⟨0, ![]⟩
abbrev S512 : Shape := ⟨1, ![512]⟩

class Facts : Prop where
  reducesTo_S512x2048_S512_d1 : S512x2048.ReducesTo [1] S512
  h_S_ : 0 < S_.numel
  bcast_S_S512 : S_.BroadcastsInDim S512 (![] : Fin 0 → Fin S512.rank)
  reducesTo_S512_S_d0 : S512.ReducesTo [0] S_
  reducesTo_S2048x512_S512_d0 : S2048x512.ReducesTo [0] S512

variable [Facts]

def fn {F : FTy → Type} [FloatOps F] (main_arg0 : FVec F S512x2048 .f32) (main_arg1 : FVec F S2048x512 .f32) : IVec S_ 1 :=
  let main_v0 : FVec F S512x2048 .f32 := mulf main_arg0 main_arg0
  let main_cst : FVec F S_ .f32 := constant S_ .f32 0x00000000#32
  let main_v1 : FVec F S512 .f32 := (fun x v => Host.reduceAdd x v reducesTo_S512x2048_S512_d1 h_S_) main_v0 main_cst
  let main_cst_0 : FVec F S_ .f32 := constant S_ .f32 0x45340000#32
  let main_v2 : FVec F S512 .f32 := broadcastInDim S512 ![] bcast_S_S512 main_cst_0
  let main_v3 : IVec S512 1 := cmpf .ole main_v1 main_v2
  let main_c : IVec S_ 1 := constantI S_ 1 1#1
  let main_v4 : IVec S_ 1 := (fun x v => Host.reduce IntOp.andi x v reducesTo_S512_S_d0 h_S_) main_v3 main_c
  let main_v5 : FVec F S2048x512 .f32 := mulf main_arg1 main_arg1
  let main_cst_1 : FVec F S_ .f32 := constant S_ .f32 0x00000000#32
  let main_v6 : FVec F S512 .f32 := (fun x v => Host.reduceAdd x v reducesTo_S2048x512_S512_d0 h_S_) main_v5 main_cst_1
  let main_cst_2 : FVec F S_ .f32 := constant S_ .f32 0x3FA00000#32
  let main_v7 : FVec F S512 .f32 := broadcastInDim S512 ![] bcast_S_S512 main_cst_2
  let main_v8 : IVec S512 1 := cmpf .ole main_v6 main_v7
  let main_c_3 : IVec S_ 1 := constantI S_ 1 1#1
  let main_v9 : IVec S_ 1 := (fun x v => Host.reduce IntOp.andi x v reducesTo_S512_S_d0 h_S_) main_v8 main_c_3
  let main_v10 : IVec S_ 1 := andi main_v4 main_v9
  main_v10
-- ==== Pre_bounded_ReferenceIdeal.lean ====
abbrev S2048x2048 : Shape := ⟨2, ![2048, 2048]⟩
abbrev S_ : Shape := ⟨0, ![]⟩
abbrev S2048 : Shape := ⟨1, ![2048]⟩

class Facts : Prop where
  reducesTo_S2048x2048_S2048_d1 : S2048x2048.ReducesTo [1] S2048
  h_S_ : 0 < S_.numel
  bcast_S_S2048 : S_.BroadcastsInDim S2048 (![] : Fin 0 → Fin S2048.rank)
  reducesTo_S2048_S_d0 : S2048.ReducesTo [0] S_
  reducesTo_S2048x2048_S2048_d0 : S2048x2048.ReducesTo [0] S2048

variable [Facts]

def fn {F : FTy → Type} [FloatOps F] (main_arg0 : FVec F S2048x2048 .f32) (main_arg1 : FVec F S2048x2048 .f32) : IVec S_ 1 :=
  let main_v0 : FVec F S2048x2048 .f32 := mulf main_arg0 main_arg0
  let main_cst : FVec F S_ .f32 := constant S_ .f32 0x00000000#32
  let main_v1 : FVec F S2048 .f32 := (fun x v => Host.reduceAdd x v reducesTo_S2048x2048_S2048_d1 h_S_) main_v0 main_cst
  let main_cst_0 : FVec F S_ .f32 := constant S_ .f32 0x45340000#32
  let main_v2 : FVec F S2048 .f32 := broadcastInDim S2048 ![] bcast_S_S2048 main_cst_0
  let main_v3 : IVec S2048 1 := cmpf .ole main_v1 main_v2
  let main_c : IVec S_ 1 := constantI S_ 1 1#1
  let main_v4 : IVec S_ 1 := (fun x v => Host.reduce IntOp.andi x v reducesTo_S2048_S_d0 h_S_) main_v3 main_c
  let main_v5 : FVec F S2048x2048 .f32 := mulf main_arg1 main_arg1
  let main_cst_1 : FVec F S_ .f32 := constant S_ .f32 0x00000000#32
  let main_v6 : FVec F S2048 .f32 := (fun x v => Host.reduceAdd x v reducesTo_S2048x2048_S2048_d0 h_S_) main_v5 main_cst_1
  let main_cst_2 : FVec F S_ .f32 := constant S_ .f32 0x3FA00000#32
  let main_v7 : FVec F S2048 .f32 := broadcastInDim S2048 ![] bcast_S_S2048 main_cst_2
  let main_v8 : IVec S2048 1 := cmpf .ole main_v6 main_v7
  let main_c_3 : IVec S_ 1 := constantI S_ 1 1#1
  let main_v9 : IVec S_ 1 := (fun x v => Host.reduce IntOp.andi x v reducesTo_S2048_S_d0 h_S_) main_v8 main_c_3
  let main_v10 : IVec S_ 1 := andi main_v4 main_v9
  main_v10
-- ==== Kernel.lean ====
abbrev S512x2048 : Shape := ⟨2, ![512, 2048]⟩
abbrev S2048x512 : Shape := ⟨2, ![2048, 512]⟩
abbrev S4 : Shape := ⟨1, ![4]⟩
abbrev S_ : Shape := ⟨0, ![]⟩
abbrev S1 : Shape := ⟨1, ![1]⟩
abbrev S512x512 : Shape := ⟨2, ![512, 512]⟩
abbrev S256x2048 : Shape := ⟨2, ![256, 2048]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v36 : BitVec 32 := Scalar.muli v24 c1_i32_24
  let v37 : BitVec 32 := Scalar.addi c0_i32_25 v36
  v37.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28 : BitVec 32 := 1#32
  let v42 : BitVec 32 := Scalar.muli v13 c1_i32_28
  let v43 : BitVec 32 := Scalar.addi c0_i32_29 v42
  v43.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v55 : BitVec 32 := Scalar.muli v2 c512_i32
  let c0_i32_34 : BitVec 32 := 0#32
  let v56 : BitVec 32 := Scalar.addi v55 c0_i32_34
  let v57 : Index := Scalar.indexCast v56
  let c0_35 : Index := 0#32
  ![v57.toNat, 0]
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v63 : BitVec 32 := Scalar.muli v24 c1_i32_42
  let v64 : BitVec 32 := Scalar.addi c0_i32_43 v63
  v64.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v75 : BitVec 32 := Scalar.muli v13 c1_i32_53
  let v76 : BitVec 32 := Scalar.addi c0_i32_54 v75
  v76.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_63 : BitVec 32 := 512#32
  let v90 : BitVec 32 := Scalar.muli v13 c512_i32_63
  let c0_i32_64 : BitVec 32 := 0#32
  let v91 : BitVec 32 := Scalar.addi v90 c0_i32_64
  let v92 : Index := Scalar.indexCast v91
  let c0_65 : Index := 0#32
  ![v92.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_71 : BitVec 32 := 512#32
  let v101 : BitVec 32 := Scalar.muli v24 c512_i32_71
  let c0_i32_72 : BitVec 32 := 0#32
  let v102 : BitVec 32 := Scalar.addi v101 c0_i32_72
  let v103 : Index := Scalar.indexCast v102
  let c0_73 : Index := 0#32
  ![v103.toNat, 0]
def k0_off4 (d0 : Dev nD) (c0_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_74 : BitVec 32 := 2#32
  let v105 : BitVec 32 := Scalar.addi v2 c2_i32_74
  let c4_i32_75 : BitVec 32 := 4#32
  let c0_i32_76 : BitVec 32 := 0#32
  let v106 : BitVec 1 := Scalar.cmpi .eq c4_i32_75 c0_i32_76
  let c1_i32_77 : BitVec 32 := 1#32
  let v107 : BitVec 32 := Scalar.select v106 c1_i32_77 c4_i32_75
  let v108 : BitVec 32 := Scalar.remsi v105 v107
  let c0_i32_79 : BitVec 32 := 0#32
  let v110 : BitVec 1 := Scalar.cmpi .slt v108 c0_i32_79
  let c0_i32_80 : BitVec 32 := 0#32
  let v111 : BitVec 1 := Scalar.cmpi .slt v107 c0_i32_80
  let v112 : BitVec 1 := Scalar.xori v110 v111
  let c0_i32_78 : BitVec 32 := 0#32
  let v109 : BitVec 1 := Scalar.cmpi .ne v108 c0_i32_78
  let v113 : BitVec 1 := Scalar.andi v112 v109
  let v114 : BitVec 32 := Scalar.addi v108 v107
  let v115 : BitVec 32 := Scalar.select v113 v114 v108
  let c512_i32_94 : BitVec 32 := 512#32
  let v129 : BitVec 32 := Scalar.muli v115 c512_i32_94
  let v130 : BitVec 32 := Scalar.addi v129 c0_i32_95
  let v131 : Index := Scalar.indexCast v130
  let c0_96 : Index := 0#32
  ![v131.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdealSched.lean ====
/-
# The handshake and the four transfers of one device, as a schedule of payments

Every device has nine semaphore cells of its own: the barrier (cell 0) and, per transfer `j < 4`, a send cell
(DMA semaphore `3 + j`) and a receive cell (DMA semaphore `7 + j`).  Each is used once.

* barrier: two units.  The neighbour above pays one and hands over its first landing buffer and the top rows of
  its third; the neighbour below pays the other and hands over its second landing buffer and the bottom rows of
  its third.  Those are just the places this device is going to write.
* receive cells: the copy's own completion, handing the landed rows to their owner, with contents.
* send cells: the copy's completion, handing back the share of the source the copy was reading.

Contents are stated here (`packed`, `finalOut`), so the run proved from this schedule is at once the frame and
the value.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Writes
public import Idealize.ShloMosaic.Lib.Tactic

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: memory `m`, all counters zero. -/
def s₀ : MemSt nD τ sig (Elt F) := ⟨m, fun _ => 0, ρ⟩

/-! ## Neighbours -/

set_option backward.proofsInPublic true in
/-- The device above (to the right). -/
def up (c : Dev nD) : Dev nD := ⟨(c.val + 1) % 4, Nat.mod_lt _ (by decide)⟩
set_option backward.proofsInPublic true in
/-- The device below (to the left). -/
def dn (c : Dev nD) : Dev nD := ⟨(c.val + 3) % 4, Nat.mod_lt _ (by decide)⟩
set_option backward.proofsInPublic true in
/-- The device two away, either way round. -/
def opp (c : Dev nD) : Dev nD := ⟨(c.val + 2) % 4, Nat.mod_lt _ (by decide)⟩

/-- Up and then down is back. -/
theorem dn_up (c : Dev nD) : dn (up c) = c := by revert c; decide
/-- Down and then up is back. -/
theorem up_dn (c : Dev nD) : up (dn c) = c := by revert c; decide
/-- Two away from the one above is the one below. -/
theorem opp_up (c : Dev nD) : opp (up c) = dn c := by revert c; decide
/-- Two away from the one below is the one above. -/
theorem opp_dn (c : Dev nD) : opp (dn c) = up c := by revert c; decide

/-- Round the ring, as a bijection. -/
def turn : Dev nD ≃ Dev nD := ⟨up, dn, dn_up, up_dn⟩

/-- The first signal goes down. -/
theorem dev1_eq : ∀ c : Dev nD, (⟨k0_dev1 c, k0_dev1_lt c⟩ : Dev nD) = dn c := by decide +kernel
/-- The second signal goes up. -/
theorem dev2_eq : ∀ c : Dev nD, (⟨k0_dev2 c, k0_dev2_lt c⟩ : Dev nD) = up c := by decide +kernel
/-- The first copy goes up. -/
theorem dev3_eq : ∀ c : Dev nD, (⟨k0_dev3 c, k0_dev3_lt c⟩ : Dev nD) = up c := by decide +kernel
/-- The second copy goes down. -/
theorem dev4_eq : ∀ c : Dev nD, (⟨k0_dev4 c, k0_dev4_lt c⟩ : Dev nD) = dn c := by decide +kernel
/-- The third copy goes up. -/
theorem dev5_eq : ∀ c : Dev nD, (⟨k0_dev5 c, k0_dev5_lt c⟩ : Dev nD) = up c := by decide +kernel
/-- The fourth copy goes down. -/
theorem dev6_eq : ∀ c : Dev nD, (⟨k0_dev6 c, k0_dev6_lt c⟩ : Dev nD) = dn c := by decide +kernel

/-- The row each store of the result starts at: the block of the device whose `x` it multiplies. -/
theorem off2_eq : ∀ c : Dev nD, k0_off2 c = ![512 * (dn c).val, 0] := by decide +kernel
/-- Where the product of the rows from above is stored. -/
theorem off3_eq : ∀ c : Dev nD, k0_off3 c = ![512 * (up c).val, 0] := by decide +kernel
/-- Where the product of the top rows from two away is stored. -/
theorem off4_top : ∀ c : Dev nD, k0_off4 c 0#32 = ![512 * (opp c).val, 0] := by decide +kernel
/-- Where the product of the bottom rows from two away is stored. -/
theorem off4_bot : ∀ c : Dev nD, k0_off4 c 256#32 = ![512 * (opp c).val + 256, 0] := by decide +kernel

/-! ## Buffers, row halves, cells -/

abbrev xM : Memref sig .tc .vmem S512x2048 .f32 := Memref.whole cc0_stg0_0
abbrev wM : Memref sig .tc .vmem S2048x512 .f32 := Memref.whole cc0_stg1_0
abbrev oM : Memref sig .tc .vmem S2048x512 .f32 := Memref.whole cc0_stg2_0
/-- The device's own rows in the narrow format. -/
abbrev bM : Memref sig .tc .vmem S512x2048 .bf16 := Memref.whole cc0_scratch0
/-- Rows landed from below, from above, and from two away. -/
abbrev lM : Memref sig .tc .vmem S512x2048 .bf16 := Memref.whole cc0_scratch1
abbrev rM : Memref sig .tc .vmem S512x2048 .bf16 := Memref.whole cc0_scratch2
abbrev fM : Memref sig .tc .vmem S512x2048 .bf16 := Memref.whole cc0_scratch3

abbrev topR : Rect S512x2048 := Rect.unit (s := S512x2048) ![0, 0] S256x2048.size inb_S512x2048_S256x2048_0_0
abbrev botR : Rect S512x2048 := Rect.unit (s := S512x2048) ![256, 0] S256x2048.size inb_S512x2048_S256x2048_256_0

abbrev lTop : Memref sig .tc .vmem S256x2048 .bf16 := lM.slice topR (fun _ => rfl)
abbrev lBot : Memref sig .tc .vmem S256x2048 .bf16 := lM.slice botR (fun _ => rfl)
abbrev rTop : Memref sig .tc .vmem S256x2048 .bf16 := rM.slice topR (fun _ => rfl)
abbrev rBot : Memref sig .tc .vmem S256x2048 .bf16 := rM.slice botR (fun _ => rfl)
abbrev fTop : Memref sig .tc .vmem S256x2048 .bf16 := fM.slice topR (fun _ => rfl)
abbrev fBot : Memref sig .tc .vmem S256x2048 .bf16 := fM.slice botR (fun _ => rfl)

abbrev barS : Sem sig := (SemArray.scalar (sig.barrier 0 rfl) : Sems sig S_).sem

abbrev bCell (c : Dev nD) : GSem nD τ sig := ((c : Thread nD τ), .reg barS)
abbrev dCell (c : Dev nD) (q : DmaSem sig) : GSem nD τ sig := ((c : Thread nD τ), .dma q)

/-- The kernel picks its semaphores out of two arrays of four. -/
theorem send0 : ((cc0_scratch4.slice (Rect.unit (s := S4) ![0] ![1] inb_S4_S1_0)).squeeze S_ squeezes_S1_S_).sem = (3 : DmaSem sig) := rfl
/-- The second send semaphore. -/
theorem send1 : ((cc0_scratch4.slice (Rect.unit (s := S4) ![1] ![1] inb_S4_S1_1)).squeeze S_ squeezes_S1_S_).sem = (4 : DmaSem sig) := rfl
/-- The third send semaphore. -/
theorem send2 : ((cc0_scratch4.slice (Rect.unit (s := S4) ![2] ![1] inb_S4_S1_2)).squeeze S_ squeezes_S1_S_).sem = (5 : DmaSem sig) := rfl
/-- The fourth send semaphore. -/
theorem send3 : ((cc0_scratch4.slice (Rect.unit (s := S4) ![3] ![1] inb_S4_S1_3)).squeeze S_ squeezes_S1_S_).sem = (6 : DmaSem sig) := rfl
/-- The first receive semaphore. -/
theorem recv0 : ((cc0_scratch5.slice (Rect.unit (s := S4) ![0] ![1] inb_S4_S1_0)).squeeze S_ squeezes_S1_S_).sem = (7 : DmaSem sig) := rfl
/-- The second receive semaphore. -/
theorem recv1 : ((cc0_scratch5.slice (Rect.unit (s := S4) ![1] ![1] inb_S4_S1_1)).squeeze S_ squeezes_S1_S_).sem = (8 : DmaSem sig) := rfl
/-- The third receive semaphore. -/
theorem recv2 : ((cc0_scratch5.slice (Rect.unit (s := S4) ![2] ![1] inb_S4_S1_2)).squeeze S_ squeezes_S1_S_).sem = (9 : DmaSem sig) := rfl
/-- The fourth receive semaphore. -/
theorem recv3 : ((cc0_scratch5.slice (Rect.unit (s := S4) ![3] ![1] inb_S4_S1_3)).squeeze S_ squeezes_S1_S_).sem = (10 : DmaSem sig) := rfl

/-- The credit of a transfer of a whole landing buffer, and of half the rows of one. -/
abbrev N : ℕ := lM.view.dmaCredit
abbrev Nh : ℕ := fTop.view.dmaCredit
/-- A whole copy pays something. -/
theorem N_pos : 0 < N := View.dmaCredit_pos _ (by decide)
/-- Half a copy pays something. -/
theorem Nh_pos : 0 < Nh := View.dmaCredit_pos _ (by decide)

/-- What DMA semaphore `q` is raised by. -/
def amt : ℕ → ℕ
  | 3 => N | 4 => N | 7 => N | 8 => N | _ => Nh
/-- Every transfer pays something. -/
theorem amt_pos (q : ℕ) : 0 < amt q := by
  unfold amt; split <;> first | exact N_pos | exact Nh_pos

/-! ## Contents -/

/-- Device `c`'s rows of `x`, and its columns of `w`, as staged. -/
def xIn (c : Dev nD) : (cc0_stg0_0 : Ref sig .tc).ty.Contents (Elt F) :=
  (win0_0.blk (0 : Fin 1)).view.read (Elt F) ((s₀ m ρ).mem ((c : Thread nD τ).loc main_arg0))
def wIn (c : Dev nD) : (cc0_stg1_0 : Ref sig .tc).ty.Contents (Elt F) :=
  (win0_1.blk (0 : Fin 1)).view.read (Elt F) ((s₀ m ρ).mem ((c : Thread nD τ).loc main_arg1))

/-- Device `c`'s rows narrowed: what it sends. -/
def packed (c : Dev nD) : Vec F S512x2048 .bf16 := k0_pay1 (xIn m ρ c)

/-- The five pieces of device `c`'s result, newest first. -/
def outPieces (c : Dev nD) : List (View.Piece (Elt F) S2048x512 .f32) :=
  [⟨Rect.unit (s := S2048x512) (k0_off4 c 256#32) S256x512.size (k0_off4_inb c 1),
      k0_pay7 (fM.view.readAt (Elt F) botR.toLoadRect (packed m ρ (opp c))) (wIn m ρ c)⟩,
   ⟨Rect.unit (s := S2048x512) (k0_off4 c 0#32) S256x512.size (k0_off4_inb c 0),
      k0_pay6 (k0_pay5 (fM.view.readAt (Elt F) topR.toLoadRect (packed m ρ (opp c)))) (wIn m ρ c)⟩,
   ⟨Rect.unit (s := S2048x512) (k0_off3 c) S512x512.size (k0_off3_inb c), k0_pay4 (packed m ρ (up c)) (wIn m ρ c)⟩,
   ⟨Rect.unit (s := S2048x512) (k0_off2 c) S512x512.size (k0_off2_inb c), k0_pay3 (packed m ρ (dn c)) (wIn m ρ c)⟩,
   ⟨Rect.unit (s := S2048x512) (k0_off1 c) S512x512.size (k0_off1_inb c), k0_pay2 (xIn m ρ c) (wIn m ρ c)⟩]

/-- Device `c`'s result. -/
def finalOut (c : Dev nD) : (cc0_stg2_0 : Ref sig .tc).ty.Contents (Elt F) := View.canon (outPieces m ρ c)

omit [FloatOps F] in
/-- The five rectangles cover the result. -/
theorem rows_covered (c : Dev nD) (y : S2048x512.Idx) :
    (y ∈ (Rect.unit (s := S2048x512) (k0_off4 c 256#32) S256x512.size (k0_off4_inb c 1)).set)
    ∨ (y ∈ (Rect.unit (s := S2048x512) (k0_off4 c 0#32) S256x512.size (k0_off4_inb c 0)).set)
    ∨ (y ∈ (Rect.unit (s := S2048x512) (k0_off3 c) S512x512.size (k0_off3_inb c)).set)
    ∨ (y ∈ (Rect.unit (s := S2048x512) (k0_off2 c) S512x512.size (k0_off2_inb c)).set)
    ∨ (y ∈ (Rect.unit (s := S2048x512) (k0_off1 c) S512x512.size (k0_off1_inb c)).set) := by
  have h0 : (y 0).val < 2048 := (y 0).isLt
  have h1 : (y 1).val < 512 := (y 1).isLt
  have hc : c.val < 4 := c.isLt
  simp only [Rect.mem_set_unit, off2_eq, off3_eq, off4_top, off4_bot, k0_off1_eq, Fin.forall_fin_two, up, dn, opp]
  simp [Shape.size]
  omega

/-- The five stores cover the result. -/
theorem pieces_cover (c : Dev nD) (y : S2048x512.Idx) : ∃ p ∈ outPieces m ρ c, y ∈ p.1.set := by
  rcases rows_covered c y with h | h | h | h | h
  · exact ⟨_, List.mem_cons_self, h⟩
  · exact ⟨_, List.mem_cons_of_mem _ List.mem_cons_self, h⟩
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

/-- Whatever the result's buffer held, after the five stores it holds `finalOut`. -/
theorem stores_final (c : Dev nD) (g : (cc0_stg2_0 : Ref sig .tc).ty.Contents (Elt F)) :
    (View.whole cc0_stg2_0).writes (Elt F) g (outPieces m ρ c) = finalOut m ρ c := by
  have h : (View.whole cc0_stg2_0).read (Elt F) ((View.whole cc0_stg2_0).writes (Elt F) g (outPieces m ρ c)) = finalOut m ρ c :=
    funext fun y => View.read_writes_apply_eq_canon (View.whole cc0_stg2_0) g y _ (pieces_cover m ρ c y)
  rwa [View.read_whole] at h

/-! ## Rows held -/

/-- The elements of a view of a landing buffer on device `c`, held at share `q` with contents `f`. -/
def held {s : Shape} (M : Memref sig .tc .vmem s .bf16) (q : PosShare TreeShare) (c : Dev nD)
    (f : Buf (Elt F) (M.view.loc (c : Thread nD τ))) : sProp 𝕄 :=
  M.view.loc (c : Thread nD τ) ↦[M.view.set]{q} f

omit [FloatOps F] in
instance held_storable {s : Shape} (M : Memref sig .tc .vmem s .bf16) (q : PosShare TreeShare) (c : Dev nD)
    (f : Buf (Elt F) (M.view.loc (c : Thread nD τ))) : BI.Storable (upEmb : UEmb _ 𝕄) (held (F := F) M q c f) := by
  unfold held; infer_instance

omit [FloatOps F] in
/-- The send buffer held through its view is the buffer held whole. -/
theorem held_b (q : PosShare TreeShare) (c : Dev nD) (f : Vec F S512x2048 .bf16) :
    held bM q c f = ((((c : Thread nD τ).loc cc0_scratch0) ↦{q} f : sProp 𝕄)) := by unfold held; rw [View.set_whole]
omit [FloatOps F] in
/-- The same of the first landing buffer. -/
theorem held_l (q : PosShare TreeShare) (c : Dev nD) (f : Vec F S512x2048 .bf16) :
    held lM q c f = ((((c : Thread nD τ).loc cc0_scratch1) ↦{q} f : sProp 𝕄)) := by unfold held; rw [View.set_whole]
omit [FloatOps F] in
/-- The same of the second landing buffer. -/
theorem held_r (q : PosShare TreeShare) (c : Dev nD) (f : Vec F S512x2048 .bf16) :
    held rM q c f = ((((c : Thread nD τ).loc cc0_scratch2) ↦{q} f : sProp 𝕄)) := by unfold held; rw [View.set_whole]
omit [FloatOps F] in
/-- The same of the third landing buffer. -/
theorem held_f (q : PosShare TreeShare) (c : Dev nD) (f : Vec F S512x2048 .bf16) :
    held fM q c f = ((((c : Thread nD τ).loc cc0_scratch3) ↦{q} f : sProp 𝕄)) := by unfold held; rw [View.set_whole]

/-- The top and the bottom rows are disjoint and together all rows. -/
theorem halves_disjoint : Disjoint topR.set botR.set :=
  Rect.unit_disjoint (0 : Fin 2) (Or.inl (by decide))
/-- The top and the bottom rows are all the rows. -/
theorem halves_union : topR.set ∪ botR.set = (Finset.univ : Finset S512x2048.Idx) := by
  ext y
  have h0 : (y 0).val < 512 := (y 0).isLt
  have h1 : (y 1).val < 2048 := (y 1).isLt
  simp only [Finset.mem_union, Rect.mem_set_unit, Finset.mem_univ, iff_true, Fin.forall_fin_two]
  simp [Shape.size]
  omega

omit [FloatOps F] in
/-- The first landing buffer is its top rows and its bottom rows. -/
theorem l_rows (q : PosShare TreeShare) (c : Dev nD) (f : Vec F S512x2048 .bf16) :
    (held lM q c f : sProp 𝕄) ⊣⊢ iprop(held lTop q c f ∗ held lBot q c f) := by
  rw [held_l]; unfold held
  rw [show lTop.view.set = topR.set from View.set_slice_whole _ _, show lBot.view.set = botR.set from View.set_slice_whole _ _,
    show (Finset.univ : Finset (cc0_scratch1 : Ref sig .tc).ty.shape.Idx) = topR.set ∪ botR.set from halves_union.symm]
  exact pointsTo_union halves_disjoint
omit [FloatOps F] in
/-- The second landing buffer likewise. -/
theorem r_rows (q : PosShare TreeShare) (c : Dev nD) (f : Vec F S512x2048 .bf16) :
    (held rM q c f : sProp 𝕄) ⊣⊢ iprop(held rTop q c f ∗ held rBot q c f) := by
  rw [held_r]; unfold held
  rw [show rTop.view.set = topR.set from View.set_slice_whole _ _, show rBot.view.set = botR.set from View.set_slice_whole _ _,
    show (Finset.univ : Finset (cc0_scratch2 : Ref sig .tc).ty.shape.Idx) = topR.set ∪ botR.set from halves_union.symm]
  exact pointsTo_union halves_disjoint
omit [FloatOps F] in
/-- The third landing buffer likewise. -/
theorem f_rows (q : PosShare TreeShare) (c : Dev nD) (f : Vec F S512x2048 .bf16) :
    (held fM q c f : sProp 𝕄) ⊣⊢ iprop(held fTop q c f ∗ held fBot q c f) := by
  rw [held_f]; unfold held
  rw [show fTop.view.set = topR.set from View.set_slice_whole _ _, show fBot.view.set = botR.set from View.set_slice_whole _ _,
    show (Finset.univ : Finset (cc0_scratch3 : Ref sig .tc).ty.shape.Idx) = topR.set ∪ botR.set from halves_union.symm]
  exact pointsTo_union halves_disjoint

omit [FloatOps F] in
/-- Anything held at the full share is two half shares of it. -/
theorem held_halves {s : Shape} (M : Memref sig .tc .vmem s .bf16) (c : Dev nD) (f : Buf (Elt F) (M.view.loc (c : Thread nD τ))) :
    (held M fullShare c f : sProp 𝕄) ⊣⊢ iprop(held M fullShare.left c f ∗ held M fullShare.right c f) := by
  unfold held; exact pointsTo_share (PosShare.mem_left_op_right fullShare)

/-! ## The schedule -/

/-- What the device above hands over with its unit: its first landing buffer, the top rows of its third, and that the
    two receive cells for them are at their first round. -/
def fromAbove (c : Dev nD) : sProp 𝕄 :=
  iprop((∃ f : Vec F S512x2048 .bf16, held lM fullShare (up c) f) ∗ (∃ f : Vec F S512x2048 .bf16, held fTop fullShare (up c) f)
    ∗ reached ER (dCell (up c) 7) 0 ∗ reached ER (dCell (up c) 9) 0)
/-- What the device below hands over with its unit. -/
def fromBelow (c : Dev nD) : sProp 𝕄 :=
  iprop((∃ f : Vec F S512x2048 .bf16, held rM fullShare (dn c) f) ∗ (∃ f : Vec F S512x2048 .bf16, held fBot fullShare (dn c) f)
    ∗ reached ER (dCell (dn c) 8) 0 ∗ reached ER (dCell (dn c) 10) 0)

/-- What is handed over when DMA semaphore `q` of device `c` is raised. -/
def handed (c : Dev nD) : ℕ → sProp 𝕄
  | 3 => held bM fullShare.left c (packed m ρ c)
  | 4 => held bM fullShare.right c (packed m ρ c)
  | 5 => held lTop fullShare.right c (packed m ρ (dn c))
  | 6 => held rBot fullShare.right c (packed m ρ (up c))
  | 7 => held lM fullShare c (packed m ρ (dn c))
  | 8 => held rM fullShare c (packed m ρ (up c))
  | 9 => held fTop fullShare c (packed m ρ (opp c))
  | 10 => held fBot fullShare c (packed m ρ (opp c))
  | _ => iprop(emp)

instance handed_storable (c : Dev nD) (q : ℕ) : BI.Storable (upEmb : UEmb _ 𝕄) (handed m ρ c q) := by
  unfold handed; split <;> infer_instance

/-- One round per cell: the barrier has two duties, each transfer cell one. -/
def sched : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma q => amt q.val
  payload g _ d := match g.2, d with | .reg _, true => fromAbove g.1.1 | .reg _, false => fromBelow g.1.1 | .dma q, _ => handed m ρ g.1.1 q.val
  amount_pos g _ _ _ := by
    rcases g with ⟨t, q | q⟩
    · exact Nat.one_pos
    · exact amt_pos _

instance sched_payload_storable (g : GSem nD τ sig) (r : ℕ) (d : Bool) :
    BI.Storable (upEmb : UEmb _ 𝕄) ((sched (F := F) m ρ).payload g r d) := by
  rcases g with ⟨t, q | q⟩
  · cases d
    · show BI.Storable upEmb (fromBelow (F := F) t.1); unfold fromBelow; infer_instance
    · show BI.Storable upEmb (fromAbove (F := F) t.1); unfold fromAbove; infer_instance
  · exact handed_storable m ρ t.1 q.val

section Tables
variable (c : Dev nD)

/-- The barrier's one round has two duties. -/
theorem duties_bar : (sched (F := F) m ρ).duties (bCell c) 0 = Finset.univ := by dsimp only [sched]; exact if_pos ⟨rfl, rfl⟩
/-- A transfer cell's one round has one duty. -/
theorem duties_dma (q : DmaSem sig) (hq : 3 ≤ q.val) : (sched (F := F) m ρ).duties (dCell c q) 0 = {false} := by
  dsimp only [sched]; rw [if_pos ⟨rfl, rfl⟩]; exact if_pos hq
/-- No round after the first has any. -/
theorem duties_after (g : GSem nD τ sig) : ∀ r, 1 ≤ r → (sched (F := F) m ρ).duties g r = ∅ :=
  fun r hr => if_neg fun h => by omega

/-- Both duties are the barrier's. -/
theorem mem_bar (d : Bool) : d ∈ (sched (F := F) m ρ).duties (bCell c) 0 := by rw [duties_bar]; exact Finset.mem_univ _
/-- A transfer cell's duty is its own. -/
theorem mem_dma (q : DmaSem sig) (hq : 3 ≤ q.val) : false ∈ (sched (F := F) m ρ).duties (dCell c q) 0 := by
  rw [duties_dma m ρ c q hq]; exact Finset.mem_singleton_self _

/-- A barrier duty pays one unit. -/
theorem amount_bar (d : Bool) : (sched (F := F) m ρ).amount (bCell c) 0 d = 1 := rfl
/-- A transfer duty pays the copy's amount. -/
theorem amount_dma (q : DmaSem sig) (d : Bool) : (sched (F := F) m ρ).amount (dCell c q) 0 d = amt q.val := rfl

/-- The barrier's round is two units. -/
theorem expect_bar : (sched (F := F) m ρ).expect (bCell c) 0 = 2 := by
  unfold Schedule.expect Schedule.amountOf; rw [duties_bar]; rfl
/-- A transfer cell's round is the copy's amount. -/
theorem expect_dma (q : DmaSem sig) (hq : 3 ≤ q.val) : (sched (F := F) m ρ).expect (dCell c q) 0 = amt q.val := by
  unfold Schedule.expect Schedule.amountOf; rw [duties_dma m ρ c q hq, Finset.sum_singleton]; rfl

/-- All that the barrier's round hands over. -/
theorem all_bar : bigSep ((sched (F := F) m ρ).duties (bCell c) 0 \ ∅) (fun d => (sched (F := F) m ρ).payload (bCell c) 0 d)
    = iprop(fromBelow c ∗ fromAbove c) := by
  rw [Finset.sdiff_empty, duties_bar, bigSep_univ_eq_bigSepL [false, true] (by decide) (by decide), bigSepL_cons_cons, bigSepL_singleton]
  rfl
/-- All that a transfer cell's round hands over. -/
theorem all_dma (q : DmaSem sig) (hq : 3 ≤ q.val) :
    bigSep ((sched (F := F) m ρ).duties (dCell c q) 0 \ ∅) (fun d => (sched (F := F) m ρ).payload (dCell c q) 0 d) = handed m ρ c q.val := by
  rw [Finset.sdiff_empty, duties_dma m ρ c q hq, bigSep_singleton]; rfl

end Tables

/-! ## What a device owes, and the order of waits -/

/-- What is still owed when only the fourth transfer is to come, when the third and fourth are, and so on back to the
    two barrier units: each payment is the outermost summand of what is owed before it. -/
def owe3 (c : Dev nD) : CellTallies nD τ sig Unit := tallyAt (dCell (dn c) 10) () Nh
def owe2 (c : Dev nD) : CellTallies nD τ sig Unit := owe3 c + tallyAt (dCell (up c) 9) () Nh
def owe1 (c : Dev nD) : CellTallies nD τ sig Unit := owe2 c + tallyAt (dCell (dn c) 8) () N
def owe0 (c : Dev nD) : CellTallies nD τ sig Unit := owe1 c + tallyAt (dCell (up c) 7) () N
def oweB (c : Dev nD) : CellTallies nD τ sig Unit := owe0 c + tallyAt (bCell (up c)) () 1
def owed₀ (c : Dev nD) : CellTallies nD τ sig Unit := oweB c + tallyAt (bCell (dn c)) () 1

def L (g : GSem nD τ sig) : Finset Unit := if g.1.2 = .tc then {()} else ∅
/-- Waits go up: staging and send cells, the barrier, the first two receive cells, the last two. -/
def lv (g : GSem nD τ sig) (_ : Unit) : ℕ := match g.2 with
  | .reg _ => 1
  | .dma q => if q.val < 7 then 0 else if q.val < 9 then 2 else 3

/-- Other cores have no cells in the schedule. -/
theorem L_of_ne (g : GSem nD τ sig) (h : g.1.2 ≠ .tc) : L g = ∅ := if_neg h
/-- A device's own core has one index at each semaphore. -/
theorem L_tc (c : Dev nD) (sm : SemLoc sig) : L ((c : Thread nD τ), sm) = {()} := if_pos rfl

/-- Everything in `O` is owed to a cell of a device's main core above level `n`. -/
def Above (n : ℕ) (O : CellTallies nD τ sig Unit) : Prop := ∀ g u, 0 < O g u → g.1.2 = .tc ∧ n < lv g ()

/-- A tally at one cell is above every level below the cell's. -/
theorem above_tally (n : ℕ) (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (lt_irrefl 0)
/-- What is above a level in each of two tallies is above it in their sum. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · rw [e, Nat.zero_add] at hg; exact h' g u hg
  · exact h g u e

/-- What is owed after the third copy is above every level below 3. -/
theorem above3 (c : Dev nD) {n : ℕ} (h : n < 3) : Above n (owe3 c) := above_tally n _ _ _ h
/-- So is what is owed after the second. -/
theorem above2 (c : Dev nD) {n : ℕ} (h : n < 3) : Above n (owe2 c) := above_add (above3 c h) (above_tally n _ _ _ h)
/-- What is owed after the first is above every level below 2. -/
theorem above1 (c : Dev nD) {n : ℕ} (h : n < 2) : Above n (owe1 c) := above_add (above2 c (by omega)) (above_tally n _ _ _ h)
/-- So is what is owed after the barrier. -/
theorem above0 (c : Dev nD) {n : ℕ} (h : n < 2) : Above n (owe0 c) := above_add (above1 c h) (above_tally n _ _ _ h)
/-- All that is owed at the start is above the lowest level. -/
theorem aboveAll (c : Dev nD) : Above 0 (owed₀ c) :=
  above_add (above_add (above0 c (by omega)) (above_tally 0 _ _ _ Nat.one_pos)) (above_tally 0 _ _ _ Nat.one_pos)

omit [FloatOps F] in
/-- A wait on a cell below all that is owed is allowed. -/
theorem may_wait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]) (fun g u hg => (h g u hg).2)

/-! ## The cells' indices, what a device starts with and ends with -/

/-- The eight scoped semaphores. -/
abbrev osem : Fin 8 → SemLoc sig := fun
  | 0 => .dma 3 | 1 => .dma 4 | 2 => .dma 5 | 3 => .dma 6 | 4 => .dma 7 | 5 => .dma 8 | 6 => .dma 9 | 7 => .dma 10
/-- All nine: the barrier, then those. -/
abbrev csem : Fin 9 → SemLoc sig := fun
  | 0 => .reg barS | 1 => .dma 3 | 2 => .dma 4 | 3 => .dma 5 | 4 => .dma 6 | 5 => .dma 7 | 6 => .dma 8 | 7 => .dma 9 | 8 => .dma 10
abbrev cellAt (ck : Dev nD × Fin 9) : GSem nD τ sig := ((ck.1 : Thread nD τ), csem ck.2)

/-- Every cell's invariant and that it reached its first round. -/
def invAll (K : Dev nD × Fin 9 → ℕ) : sProp 𝕄 := bigSep Finset.univ fun ck : Dev nD × Fin 9 => cellInv ER (sched m ρ) (K ck) (cellAt ck)
def reachedAll : sProp 𝕄 := bigSep Finset.univ fun ck : Dev nD × Fin 9 => reached ER (cellAt ck) 0

instance invAll_persistent (K : Dev nD × Fin 9 → ℕ) : BI.Persistent (invAll m ρ K) := by unfold invAll; infer_instance
omit [FloatOps F] in
instance reachedAll_persistent : BI.Persistent (reachedAll (F := F)) := by unfold reachedAll; infer_instance

/-- The invariant of one cell, out of all of them. -/
theorem inv_of (K : Dev nD × Fin 9 → ℕ) (ck : Dev nD × Fin 9) : invAll m ρ K ⊢ cellInv ER (sched m ρ) (K ck) (cellAt ck) := by
  unfold invAll; exact bigSep_elim (Finset.mem_univ ck)
omit [FloatOps F] in
/-- The first round of one cell, out of all of them. -/
theorem reached_of (ck : Dev nD × Fin 9) : (reachedAll (F := F)) ⊢ reached ER (cellAt ck) 0 := by
  unfold reachedAll; exact bigSep_elim (Finset.mem_univ ck)

/-- The positions of a device's own nine cells. -/
def places (c : Dev nD) : sProp 𝕄 :=
  iprop(atPos ER (bCell c) 0 ∅ 0 ∗ atPos ER (dCell c 3) 0 ∅ 0 ∗ atPos ER (dCell c 4) 0 ∅ 0 ∗ atPos ER (dCell c 5) 0 ∅ 0 ∗ atPos ER (dCell c 6) 0 ∅ 0
    ∗ atPos ER (dCell c 7) 0 ∅ 0 ∗ atPos ER (dCell c 8) 0 ∅ 0 ∗ atPos ER (dCell c 9) 0 ∅ 0 ∗ atPos ER (dCell c 10) 0 ∅ 0)
/-- The tokens of the duties a device pays: one unit at each neighbour's barrier, its own send cells, its transfers' receive cells. -/
def dues (c : Dev nD) : sProp 𝕄 :=
  iprop(dutyTok ER (bCell (dn c)) 0 true ∗ dutyTok ER (bCell (up c)) 0 false
    ∗ dutyTok ER (dCell c 3) 0 false ∗ dutyTok ER (dCell c 4) 0 false ∗ dutyTok ER (dCell c 5) 0 false ∗ dutyTok ER (dCell c 6) 0 false
    ∗ dutyTok ER (dCell (up c) 7) 0 false ∗ dutyTok ER (dCell (dn c) 8) 0 false ∗ dutyTok ER (dCell (up c) 9) 0 false ∗ dutyTok ER (dCell (dn c) 10) 0 false)
/-- What the others owe a device's cells. -/
def credits (c : Dev nD) : sProp 𝕄 :=
  iprop(cred (tallyAt (bCell c) () 2) ∗ cred (tallyAt (dCell c 7) () N) ∗ cred (tallyAt (dCell c 8) () N)
    ∗ cred (tallyAt (dCell c 9) () Nh) ∗ cred (tallyAt (dCell c 10) () Nh))

def ghost (K : Dev nD × Fin 9 → ℕ) (c : Dev nD) : sProp 𝕄 :=
  iprop(invAll m ρ K ∗ reachedAll (F := F) ∗ places c ∗ dues c)
def start (c : Dev nD) : sProp 𝕄 := iprop((∃ K, ghost m ρ K c) ∗ credits c ∗ levAts L lv)

/-- The four scratch buffers, held whole. -/
def scratch (c : Dev nD) : sProp 𝕄 :=
  iprop((∃ f : Vec F S512x2048 .bf16, held bM fullShare c f) ∗ (∃ f : Vec F S512x2048 .bf16, held lM fullShare c f)
    ∗ (∃ f : Vec F S512x2048 .bf16, held rM fullShare c f) ∗ (∃ f : Vec F S512x2048 .bf16, held fM fullShare c f))
/-- A device's nine cells at zero. -/
def zeros (c : Dev nD) : sProp 𝕄 :=
  iprop(semVal (bCell c) 0 ∗ semVal (dCell c 3) 0 ∗ semVal (dCell c 4) 0 ∗ semVal (dCell c 5) 0 ∗ semVal (dCell c 6) 0
    ∗ semVal (dCell c 7) 0 ∗ semVal (dCell c 8) 0 ∗ semVal (dCell c 9) 0 ∗ semVal (dCell c 10) 0)

def before (c : Dev nD) : sProp 𝕄 := iprop(start m ρ c ∗ scratch c)
def after (c : Dev nD) : sProp 𝕄 := iprop(scratch (F := F) c ∗ zeros c)

/-- The proof data of the one-point pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => finalOut m ρ c
  Φ t := match t with
    | ⟨0, _⟩ => before m ρ c
    | ⟨_ + 1, _⟩ => after c
  q _ := fullShare
  owed t := match t with
    | ⟨0, _⟩ => owed₀ c
    | ⟨_ + 1, _⟩ => 0

abbrev 𝒱₀ : Variants := Variants.none

end Cert.KernelIdealRun

end
-- ==== Proof.KernelIdealBody.lean ====
/-
# One device's kernel body, run once at a symbolic device

The body is taken effect by effect from what the device starts with to what it ends with; the rounds library's
rules pay and collect at the semaphores, the points-to rules do the loads and stores.  Reads of a buffer a copy is
still reading go through the half share the copy was not given.
-/
module

public import proofs.«01_k».proof.Proof.KernelIdealSched

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a landing writes -/

omit [FloatOps F] in
/-- A whole buffer copied onto a whole buffer leaves the source's contents. -/
theorem land_l (fd fs : Vec F S512x2048 .bf16) : lM.view.write (Elt F) fd (bM.view.read (Elt F) fs) Finset.univ = fs := by
  show (View.whole cc0_scratch1).write (Elt F) fd ((View.whole cc0_scratch0).read (Elt F) fs) Finset.univ = fs
  rw [View.read_whole]; exact View.write_whole_univ _ _ _
omit [FloatOps F] in
/-- A whole copy into the second landing buffer leaves the source there. -/
theorem land_r (fd fs : Vec F S512x2048 .bf16) : rM.view.write (Elt F) fd (bM.view.read (Elt F) fs) Finset.univ = fs := by
  show (View.whole cc0_scratch2).write (Elt F) fd ((View.whole cc0_scratch0).read (Elt F) fs) Finset.univ = fs
  rw [View.read_whole]; exact View.write_whole_univ _ _ _

omit [FloatOps F] in
/-- The top rows copied onto the top rows: on those rows the source's contents. -/
theorem land_top (fd fs : Vec F S512x2048 .bf16) (i : S512x2048.Idx) (hi : i ∈ fTop.view.set) :
    fTop.view.write (Elt F) fd (lTop.view.read (Elt F) fs) Finset.univ i = fs i := by
  obtain ⟨x, -, rfl⟩ := Finset.mem_map.mp hi
  exact (View.write_emb_of_mem _ _ (Finset.mem_univ x)).trans rfl
omit [FloatOps F] in
/-- A copy of the bottom rows leaves the source's rows on the bottom half. -/
theorem land_bot (fd fs : Vec F S512x2048 .bf16) (i : S512x2048.Idx) (hi : i ∈ fBot.view.set) :
    fBot.view.write (Elt F) fd (rBot.view.read (Elt F) fs) Finset.univ i = fs i := by
  obtain ⟨x, -, rfl⟩ := Finset.mem_map.mp hi
  exact (View.write_emb_of_mem _ _ (Finset.mem_univ x)).trans rfl

omit [FloatOps F] in
/-- The offset at the origin, written two ways. -/
theorem zero2 : (![0, 0] : Fin 2 → Nat) = fun _ => 0 := funext fun a => by fin_cases a <;> rfl

/-! ## One transfer started, one wait -/

/-- A transfer of `src` at share `q` to device `n`'s `dst`, raising send cell `qs` here and receive cell `qr` there. -/
theorem wp_copy {s : Shape} (c n : Dev nD) (src : Memref sig .tc .vmem s .bf16) (dst : Memref sig .tc .vmem s .bf16) (qs qr : DmaSem sig)
    (hs : 3 ≤ qs.val) (hr : 3 ≤ qr.val) (κ₁ κ₂ : ℕ) (q : PosShare TreeShare) (k : ℕ) (O O' : CellTallies nD τ sig Unit) (W : Waits sig Unit)
    (fs : Buf (Elt F) (src.view.loc (c : Thread nD τ))) (fd : Buf (Elt F) (dst.view.loc (n : Thread nD τ)))
    (hk : dst.view.dmaCredit = k) (hks : amt qs.val = k) (hkr : amt qr.val = k) (hO : O = O' + tallyAt (dCell n qr) () k)
    (hback : (held src q c fs : sProp 𝕄) ⊢ handed m ρ c qs.val)
    (hland : (held dst fullShare n (dst.view.write (Elt F) fd (src.view.read (Elt F) fs) Finset.univ) : sProp 𝕄) ⊢ handed m ρ n qr.val)
    {hsc : (dst : Memref sig (Dev.tc n : Thread nD τ).2.kind .vmem s .bf16).view.ref.isScScratch = false}
    {hsrc : src.view.WordExact} {hdst : dst.view.WordExact}
    {hsem : DmaTarget.Typed .vmem (.dma qr) (.remote (Dev.tc n : Thread nD τ) (dst : Memref sig (Dev.tc n : Thread nD τ).2.kind .vmem s .bf16) (.dma qs) hsc)}
    {α : Type} {Q : α → sProp 𝕄} {kont : PUnit → Prog (TpuEff nD τ sig (Elt F) Λ₀ .tc) α} :
    iprop(cellInv ER (sched m ρ) κ₁ (dCell c qs) ∗ cellInv ER (sched m ρ) κ₂ (dCell n qr)
        ∗ held src q c fs ∗ held dst fullShare n fd ∗ owes (c : Thread nD τ) O W
        ∗ dutyTok ER (dCell c qs) 0 false ∗ reached ER (dCell c qs) 0 ∗ dutyTok ER (dCell n qr) 0 false ∗ reached ER (dCell n qr) 0)
      ⊢ iprop(((cred (tallyAt (dCell c qs) () k) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kont) Q) := by
  unfold held at hback hland ⊢
  exact Rounds.wp_send_pointsTo 𝒱₀ ER (sched m ρ) (c : Thread nD τ) none (κ₁ := κ₁) (κ₂ := κ₂)
    (r₁ := 0) (r₂ := 0) (d₁ := false) (d₂ := false) (fd := fd) (mem_dma m ρ c qs hs) (mem_dma m ρ n qr hr)
    () () k hk hks hkr O' hO (W := W) hback hland

/-- A wait on a transfer cell that the device may make (`h`), returning what the cell hands over. -/
theorem wp_landed {s : Shape} (c : Dev nD) (q : DmaSem sig) (hq : 3 ≤ q.val) (κ k : ℕ) (O : CellTallies nD τ sig Unit) (W : Waits sig Unit)
    (h : Above (lv (dCell c q) ()) O) {src dst : Memref sig .tc .vmem s .bf16} {hsrc : src.view.WordExact} {hdst : dst.view.WordExact}
    (hk : dst.view.dmaCredit = k) (hkq : amt q.val = k)
    {α : Type} {Q : α → sProp 𝕄} {kont : PUnit → Prog (TpuEff nD τ sig (Elt F) Λ₀ .tc) α} :
    iprop(cellInv ER (sched m ρ) κ (dCell c q) ∗ levAts L lv ∗ cred (tallyAt (dCell c q) () k) ∗ owes (c : Thread nD τ) O W ∗ atPos ER (dCell c q) 0 ∅ 0)
      ⊢ iprop(((owes (c : Thread nD τ) O (insert (SemLoc.dma q, ()) W) ∗ atPos ER (dCell c q) (0 + 1) ∅ 0 ∗ handed m ρ c q.val)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  iintro ⟨#HI, Hlev, Hc, HO, Hat⟩ Hk
  subst hk
  iapply (Rounds.wp_wait_rest_token 𝒱₀ ER (sched m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_dma m ρ c q hq, hkq])) $$ [Hlev Hc HO Hat]
  · isplitr; · iexact HI
    isplitl [Hc]; · iexact Hc
    isplitl [HO]; · iexact HO
    isplitl [Hlev]; · iapply (may_wait c (SemLoc.dma q) O h); iexact Hlev
    iexact Hat
  iintro ⟨HO, Hat, -, Hpay⟩
  iapply Hk
  isplitl [HO]; · iexact HO
  isplitl [Hat]; · iexact Hat
  iapply (Entails.of_eq (all_dma m ρ c q hq)); iexact Hpay

/-- A cell past its only round gives its counter back at zero. -/
theorem cell_done (K : Dev nD × Fin 9 → ℕ) (ck : Dev nD × Fin 9) :
    iprop(invAll m ρ K ∗ atPos ER (cellAt ck) (0 + 1) ∅ 0) ⊢ |={Set.univ}=> semVal (cellAt ck) 0 := by
  iintro ⟨#HI, Hat⟩
  iapply (Rounds.cell_close ER (sched m ρ) (Set.mem_univ (K ck)) (fun h => h) (R := 0 + 1) (duties_after m ρ (cellAt ck)))
  isplitr; · iapply (inv_of m ρ K ck); iexact HI
  iexact Hat

/-! ## The run of the body -/

/-- A staging buffer holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a staging buffer of the device, as a points-to. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- The grid has one point. -/
theorem N0 : cfg0.N = 1 := by decide
/-- Its one point is the first. -/
theorem pt (t : Fin cfg0.N) : t = (t0_0 : Fin cfg0.N) := fin_N0 t

/-- What the body is entered with, but for the staging buffers. -/
def entry (K : Dev nD × Fin 9 → ℕ) (c : Dev nD) : sProp 𝕄 :=
  iprop(ghost m ρ K c ∗ credits c ∗ levAts L lv ∗ scratch c ∗ (∃ W, owes (c : Thread nD τ) (owed₀ c) W))
/-- What it leaves. -/
def exit (c : Dev nD) : sProp 𝕄 := iprop(after c ∗ ∃ W, owes (c : Thread nD τ) 0 W)

abbrev allR : Rect S512x2048 := Rect.unit (s := S512x2048) ![0, 0] S512x2048.size inb_S512x2048_S512x2048_0_0
abbrev allW : Rect S2048x512 := Rect.unit (s := S2048x512) ![0, 0] S2048x512.size inb_S2048x512_S2048x512_0_0

omit [FloatOps F] in
/-- Reading the staged rows whole gives them. -/
theorem read_x (f : Vec F S512x2048 .f32) : xM.view.readAt (Elt F) allR.toLoadRect f = f := Memref.readAt_unit_zero (Elt F) cc0_stg0_0 zero2 _ f
omit [FloatOps F] in
/-- Reading the staged columns whole gives them. -/
theorem read_w (f : Vec F S2048x512 .f32) : wM.view.readAt (Elt F) allW.toLoadRect f = f := Memref.readAt_unit_zero (Elt F) cc0_stg1_0 zero2 _ f
omit [FloatOps F] in
/-- Reading the first landing buffer whole gives its contents. -/
theorem read_l (f : Vec F S512x2048 .bf16) : lM.view.readAt (Elt F) allR.toLoadRect f = f := Memref.readAt_unit_zero (Elt F) cc0_scratch1 zero2 _ f
omit [FloatOps F] in
/-- Reading the second landing buffer whole gives its contents. -/
theorem read_r (f : Vec F S512x2048 .bf16) : rM.view.readAt (Elt F) allR.toLoadRect f = f := Memref.readAt_unit_zero (Elt F) cc0_scratch2 zero2 _ f
omit [FloatOps F] in
/-- Writing the send buffer whole leaves what was written. -/
theorem write_b (f w : Vec F S512x2048 .bf16) : (bM.access allR : View sig .tc _ _ _).write (Elt F) f w Finset.univ = w :=
  Memref.write_access_unit_zero_univ (Elt F) cc0_scratch0 zero2 _ f w

/-! ## The four transfers -/

/-- The first transfer: this device's own rows to the device above. -/
theorem copy_up (K : Dev nD × Fin 9 → ℕ) (c n : Dev nD) (hn : n = up c) (W : Waits sig Unit) (fd : Vec F S512x2048 .bf16)
    {hsc : (lM : Memref sig (Dev.tc n : Thread nD τ).2.kind .vmem S512x2048 .bf16).view.ref.isScScratch = false}
    {hsrc : (bM).view.WordExact} {hdst : (lM).view.WordExact}
    {hsem : DmaTarget.Typed .vmem (.dma (7 : DmaSem sig)) (.remote (Dev.tc n : Thread nD τ) (lM : Memref sig (Dev.tc n : Thread nD τ).2.kind .vmem S512x2048 .bf16) (.dma (3 : DmaSem sig)) hsc)}
    {α : Type} {Q : α → sProp 𝕄} {kont : PUnit → Prog (TpuEff nD τ sig (Elt F) Λ₀ .tc) α} :
    iprop((invAll m ρ K ∗ reached ER (dCell (up c) 7) 0 ∗ reachedAll (F := F)) ∗ held bM fullShare.left c (packed m ρ c) ∗ held lM fullShare (up c) fd
        ∗ owes (c : Thread nD τ) (owe0 c) W ∗ dutyTok ER (dCell c 3) 0 false ∗ dutyTok ER (dCell (up c) 7) 0 false)
      ⊢ iprop(((cred (tallyAt (dCell c 3) () N) ∗ owes (c : Thread nD τ) (owe1 c) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma bM (.remote (Dev.tc n : Thread nD τ) lM (.dma (3 : DmaSem sig)) hsc) (.dma (7 : DmaSem sig)) hsrc hdst hsem) kont) Q) := by
  subst hn
  iintro ⟨⟨#HI, #Hr, #HR⟩, Hs, Hd, HO, Ht1, Ht2⟩
  iapply (wp_copy m ρ c (up c) bM lM 3 7 (by decide) (by decide) (K (c, 1)) (K (up c, 5)) fullShare.left N (owe0 c) (owe1 c) W (packed m ρ c) fd
    rfl rfl rfl rfl (BI.Entails.refl _) (by
      show held lM fullShare (up c) _ ⊢ held lM fullShare (up c) (packed m ρ (dn (up c)))
      rw [land_l, dn_up]))
  isplitr; · iapply (inv_of m ρ K (c, 1)); iexact HI
  isplitr; · iapply (inv_of m ρ K (up c, 5)); iexact HI
  isplitl [Hs]; · iexact Hs
  isplitl [Hd]; · iexact Hd
  isplitl [HO]; · iexact HO
  isplitl [Ht1]; · iexact Ht1
  isplitr; · iapply (reached_of (F := F) (c, 1)); iexact HR
  isplitl [Ht2]; · iexact Ht2
  iexact Hr

/-- The second: its own rows to the device below. -/
theorem copy_dn (K : Dev nD × Fin 9 → ℕ) (c n : Dev nD) (hn : n = dn c) (W : Waits sig Unit) (fd : Vec F S512x2048 .bf16)
    {hsc : (rM : Memref sig (Dev.tc n : Thread nD τ).2.kind .vmem S512x2048 .bf16).view.ref.isScScratch = false}
    {hsrc : (bM).view.WordExact} {hdst : (rM).view.WordExact}
    {hsem : DmaTarget.Typed .vmem (.dma (8 : DmaSem sig)) (.remote (Dev.tc n : Thread nD τ) (rM : Memref sig (Dev.tc n : Thread nD τ).2.kind .vmem S512x2048 .bf16) (.dma (4 : DmaSem sig)) hsc)}
    {α : Type} {Q : α → sProp 𝕄} {kont : PUnit → Prog (TpuEff nD τ sig (Elt F) Λ₀ .tc) α} :
    iprop((invAll m ρ K ∗ reached ER (dCell (dn c) 8) 0 ∗ reachedAll (F := F)) ∗ held bM fullShare.right c (packed m ρ c) ∗ held rM fullShare (dn c) fd
        ∗ owes (c : Thread nD τ) (owe1 c) W ∗ dutyTok ER (dCell c 4) 0 false ∗ dutyTok ER (dCell (dn c) 8) 0 false)
      ⊢ iprop(((cred (tallyAt (dCell c 4) () N) ∗ owes (c : Thread nD τ) (owe2 c) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma bM (.remote (Dev.tc n : Thread nD τ) rM (.dma (4 : DmaSem sig)) hsc) (.dma (8 : DmaSem sig)) hsrc hdst hsem) kont) Q) := by
  subst hn
  iintro ⟨⟨#HI, #Hr, #HR⟩, Hs, Hd, HO, Ht1, Ht2⟩
  iapply (wp_copy m ρ c (dn c) bM rM 4 8 (by decide) (by decide) (K (c, 2)) (K (dn c, 6)) fullShare.right N (owe1 c) (owe2 c) W (packed m ρ c) fd
    rfl rfl rfl rfl (BI.Entails.refl _) (by
      show held rM fullShare (dn c) _ ⊢ held rM fullShare (dn c) (packed m ρ (up (dn c)))
      rw [land_r, up_dn]))
  isplitr; · iapply (inv_of m ρ K (c, 2)); iexact HI
  isplitr; · iapply (inv_of m ρ K (dn c, 6)); iexact HI
  isplitl [Hs]; · iexact Hs
  isplitl [Hd]; · iexact Hd
  isplitl [HO]; · iexact HO
  isplitl [Ht1]; · iexact Ht1
  isplitr; · iapply (reached_of (F := F) (c, 2)); iexact HR
  isplitl [Ht2]; · iexact Ht2
  iexact Hr

/-- The third: the top rows landed from below passed on to the device above. -/
theorem pass_up (K : Dev nD × Fin 9 → ℕ) (c n : Dev nD) (hn : n = up c) (W : Waits sig Unit) (fd : Vec F S512x2048 .bf16)
    {hsc : (fTop : Memref sig (Dev.tc n : Thread nD τ).2.kind .vmem S256x2048 .bf16).view.ref.isScScratch = false}
    {hsrc : (lTop).view.WordExact} {hdst : (fTop).view.WordExact}
    {hsem : DmaTarget.Typed .vmem (.dma (9 : DmaSem sig)) (.remote (Dev.tc n : Thread nD τ) (fTop : Memref sig (Dev.tc n : Thread nD τ).2.kind .vmem S256x2048 .bf16) (.dma (5 : DmaSem sig)) hsc)}
    {α : Type} {Q : α → sProp 𝕄} {kont : PUnit → Prog (TpuEff nD τ sig (Elt F) Λ₀ .tc) α} :
    iprop((invAll m ρ K ∗ reached ER (dCell (up c) 9) 0 ∗ reachedAll (F := F)) ∗ held lTop fullShare.right c (packed m ρ (dn c)) ∗ held fTop fullShare (up c) fd
        ∗ owes (c : Thread nD τ) (owe2 c) W ∗ dutyTok ER (dCell c 5) 0 false ∗ dutyTok ER (dCell (up c) 9) 0 false)
      ⊢ iprop(((cred (tallyAt (dCell c 5) () Nh) ∗ owes (c : Thread nD τ) (owe3 c) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lTop (.remote (Dev.tc n : Thread nD τ) fTop (.dma (5 : DmaSem sig)) hsc) (.dma (9 : DmaSem sig)) hsrc hdst hsem) kont) Q) := by
  subst hn
  iintro ⟨⟨#HI, #Hr, #HR⟩, Hs, Hd, HO, Ht1, Ht2⟩
  iapply (wp_copy m ρ c (up c) lTop fTop 5 9 (by decide) (by decide) (K (c, 3)) (K (up c, 7)) fullShare.right Nh (owe2 c) (owe3 c) W (packed m ρ (dn c)) fd
    rfl rfl rfl rfl (BI.Entails.refl _) (by
      show held fTop fullShare (up c) _ ⊢ held fTop fullShare (up c) (packed m ρ (opp (up c)))
      rw [opp_up]; unfold held
      exact Entails.of_eq (pointsTo_congr fun i hi => land_top fd _ i hi)))
  isplitr; · iapply (inv_of m ρ K (c, 3)); iexact HI
  isplitr; · iapply (inv_of m ρ K (up c, 7)); iexact HI
  isplitl [Hs]; · iexact Hs
  isplitl [Hd]; · iexact Hd
  isplitl [HO]; · iexact HO
  isplitl [Ht1]; · iexact Ht1
  isplitr; · iapply (reached_of (F := F) (c, 3)); iexact HR
  isplitl [Ht2]; · iexact Ht2
  iexact Hr

/-- The fourth: the bottom rows landed from above passed on to the device below. -/
theorem pass_dn (K : Dev nD × Fin 9 → ℕ) (c n : Dev nD) (hn : n = dn c) (W : Waits sig Unit) (fd : Vec F S512x2048 .bf16)
    {hsc : (fBot : Memref sig (Dev.tc n : Thread nD τ).2.kind .vmem S256x2048 .bf16).view.ref.isScScratch = false}
    {hsrc : (rBot).view.WordExact} {hdst : (fBot).view.WordExact}
    {hsem : DmaTarget.Typed .vmem (.dma (10 : DmaSem sig)) (.remote (Dev.tc n : Thread nD τ) (fBot : Memref sig (Dev.tc n : Thread nD τ).2.kind .vmem S256x2048 .bf16) (.dma (6 : DmaSem sig)) hsc)}
    {α : Type} {Q : α → sProp 𝕄} {kont : PUnit → Prog (TpuEff nD τ sig (Elt F) Λ₀ .tc) α} :
    iprop((invAll m ρ K ∗ reached ER (dCell (dn c) 10) 0 ∗ reachedAll (F := F)) ∗ held rBot fullShare.right c (packed m ρ (up c)) ∗ held fBot fullShare (dn c) fd
        ∗ owes (c : Thread nD τ) (owe3 c) W ∗ dutyTok ER (dCell c 6) 0 false ∗ dutyTok ER (dCell (dn c) 10) 0 false)
      ⊢ iprop(((cred (tallyAt (dCell c 6) () Nh) ∗ owes (c : Thread nD τ) (0) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma rBot (.remote (Dev.tc n : Thread nD τ) fBot (.dma (6 : DmaSem sig)) hsc) (.dma (10 : DmaSem sig)) hsrc hdst hsem) kont) Q) := by
  subst hn
  iintro ⟨⟨#HI, #Hr, #HR⟩, Hs, Hd, HO, Ht1, Ht2⟩
  iapply (wp_copy m ρ c (dn c) rBot fBot 6 10 (by decide) (by decide) (K (c, 4)) (K (dn c, 8)) fullShare.right Nh (owe3 c) (0) W (packed m ρ (up c)) fd
    rfl rfl rfl (by unfold owe3; rw [zero_add]) (BI.Entails.refl _) (by
      show held fBot fullShare (dn c) _ ⊢ held fBot fullShare (dn c) (packed m ρ (opp (dn c)))
      rw [opp_dn]; unfold held
      exact Entails.of_eq (pointsTo_congr fun i hi => land_bot fd _ i hi)))
  isplitr; · iapply (inv_of m ρ K (c, 4)); iexact HI
  isplitr; · iapply (inv_of m ρ K (dn c, 8)); iexact HI
  isplitl [Hs]; · iexact Hs
  isplitl [Hd]; · iexact Hd
  isplitl [HO]; · iexact HO
  isplitl [Ht1]; · iexact Ht1
  isplitr; · iapply (reached_of (F := F) (c, 4)); iexact HR
  isplitl [Ht2]; · iexact Ht2
  iexact Hr

end Cert.KernelIdealRun

end
-- ==== Proof.KernelIdealExec.lean ====
/-
# The body from entry to exit

The effects in program order.  The device hands its landing buffers to its neighbours with its two signals, receives
theirs with its wait, lends halves of what it sends to the copies, multiplies while they run, and collects everything
again by its waits.
-/
module

public import proofs.«01_k».proof.Proof.KernelIdealBody

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Owing nothing, any wait is allowed. -/
theorem above_zero (n : ℕ) : Above n 0 := fun g u h => absurd h (lt_irrefl 0)

/-- The staging buffers of the rows, the columns and the result. -/
def buffers (c : Dev nD) (g : Vec F S2048x512 .f32) : sProp 𝕄 :=
  iprop((((c : Thread nD τ).loc cc0_stg0_0) ↦{fullShare} xIn m ρ c) ∗ (((c : Thread nD τ).loc cc0_stg1_0) ↦{fullShare} wIn m ρ c)
    ∗ (((c : Thread nD τ).loc cc0_stg2_0) ↦{fullShare} (g : Buf (Elt F) ((c : Thread nD τ).loc cc0_stg2_0))))

set_option maxHeartbeats 4000000 in
set_option maxRecDepth 4000 in
/-- The body, from entry with the result's buffer at any contents to exit with it at `finalOut`. -/
theorem run_body (K : Dev nD × Fin 9 → ℕ) (c : Dev nD) (g : Vec F S2048x512 .f32) (Kt : PUnit → sProp 𝕄) :
    iprop((entry m ρ K c ∗ buffers m ρ c g) ∗ ((exit (F := F) c ∗ buffers m ρ c (finalOut m ρ c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  simp only [send0, send1, send2, send3, recv0, recv1, recv2, recv3]
  simp only [dev1_eq c, dev2_eq c]
  unfold entry ghost places dues credits scratch buffers
  iintro ⟨⟨⟨⟨#HI, #HR, ⟨pB, p3, p4, p5, p6, p7, p8, p9, p10⟩, ⟨tBd, tBu, t3, t4, t5, t6, t7, t8, t9, t10⟩⟩,
      ⟨kB, k7, k8, k9, k10⟩, #Hlev, ⟨⟨%fb, Hb0⟩, ⟨%fl, Hl⟩, ⟨%fr, Hr⟩, ⟨%ff, Hf⟩⟩, ⟨%W, HO⟩⟩, ⟨Hx, Hw, Ho⟩⟩, Hk⟩
  -- the two signals: each neighbour's unit, with what it may write
  ihave Hf2 := (f_rows fullShare c ff).1 $$ Hf
  icases Hf2 with ⟨HfT, HfB⟩
  unfold owed₀
  iapply (Rounds.wp_signal 𝒱₀ ER (sched m ρ) (c : Thread nD τ) none (dst := (dn c : Thread nD τ)) (κ := K (dn c, 0))
      (d := true) (mem_bar m ρ (dn c) true) ((amount_bar m ρ (dn c) true).trans (by decide)) () (oweB c) rfl) $$ [HO tBd Hl HfT]
  · isplitr; · iapply (inv_of m ρ K (dn c, 0)); iexact HI
    isplitl [HO]; · iexact HO
    isplitl [tBd]; · iexact tBd
    isplitl [Hl HfT]
    · iapply (Entails.of_eq (show fromAbove (F := F) (dn c) = (sched m ρ).payload (bCell (dn c)) 0 true from rfl))
      unfold fromAbove; rw [up_dn]
      isplitl [Hl]; · iexists fl; iexact Hl
      isplitl [HfT]; · iexists ff; iexact HfT
      isplitr; · iapply (reached_of (F := F) (c, 5)); iexact HR
      iapply (reached_of (F := F) (c, 7)); iexact HR
    · iapply (reached_of (F := F) (dn c, 0)); iexact HR
  iintro HO
  unfold oweB
  iapply (Rounds.wp_signal 𝒱₀ ER (sched m ρ) (c : Thread nD τ) none (dst := (up c : Thread nD τ)) (κ := K (up c, 0))
      (d := false) (mem_bar m ρ (up c) false) ((amount_bar m ρ (up c) false).trans (by decide)) () (owe0 c) rfl) $$ [HO tBu Hr HfB]
  · isplitr; · iapply (inv_of m ρ K (up c, 0)); iexact HI
    isplitl [HO]; · iexact HO
    isplitl [tBu]; · iexact tBu
    isplitl [Hr HfB]
    · iapply (Entails.of_eq (show fromBelow (F := F) (up c) = (sched m ρ).payload (bCell (up c)) 0 false from rfl))
      unfold fromBelow; rw [dn_up]
      isplitl [Hr]; · iexists fr; iexact Hr
      isplitl [HfB]; · iexists ff; iexact HfB
      isplitr; · iapply (reached_of (F := F) (c, 6)); iexact HR
      iapply (reached_of (F := F) (c, 8)); iexact HR
    · iapply (reached_of (F := F) (up c, 0)); iexact HR
  iintro HO
  -- the wait for both neighbours: their buffers, to be written
  iapply (Rounds.wp_wait_rest_token 𝒱₀ ER (sched m ρ) (c : Thread nD τ) none (κ := K (c, 0))
      (wpE_semWait_eq 𝒱₀ (c : Thread nD τ) none Set.univ) (Set.mem_univ _) () (O := owe0 c) (W := W) (R := 0) (m := 0) (T := ∅)
      (by rw [expect_bar]; decide)) $$ [kB HO pB]
  · isplitr; · iapply (inv_of m ρ K (c, 0)); iexact HI
    isplitl [kB]; · iexact kB
    isplitl [HO]; · iexact HO
    isplitr; · iapply (may_wait c (.reg barS) (owe0 c) (above0 c Nat.one_lt_two)); iexact Hlev
    iexact pB
  iintro ⟨HO, pB, -, Hpay⟩
  ihave Hp2 := (Entails.of_eq (all_bar m ρ c)) $$ Hpay
  unfold fromBelow fromAbove
  icases Hp2 with ⟨⟨⟨%frd, HrD⟩, ⟨%fbd, HfBD⟩, #Hr8, #Hr10⟩, ⟨%flu, HlU⟩, ⟨%ftu, HfTU⟩, #Hr7, #Hr9⟩
  -- the device's rows narrowed and stored
  iapply (wp_load 𝒱₀ (c : Thread nD τ) none Set.univ (m := xM) (Finset.subset_univ _)) $$ Hx; iintro Hx
  rw [read_x]
  ihave Hb := (Entails.of_eq (held_b fullShare c fb)) $$ Hb0
  iapply (wp_load 𝒱₀ (c : Thread nD τ) none Set.univ (m := bM) (Finset.subset_univ _)) $$ Hb; iintro Hb
  iapply (wp_store 𝒱₀ (c : Thread nD τ) none Set.univ (m := bM) (r := allR) (Mk := Finset.univ) (Finset.subset_univ _)) $$ Hb; iintro Hb
  rw [write_b]
  ihave Hb1 := (Entails.of_eq (show ((bM.access allR).loc (c : Thread nD τ) ↦{fullShare} k0_pay1 (xIn m ρ c)) = held bM fullShare c (packed m ρ c) from (held_b fullShare c (packed m ρ c)).symm)) $$ Hb
  ihave Hb2 := (held_halves bM c (packed m ρ c)).1 $$ Hb1
  icases Hb2 with ⟨HbL, HbR⟩
  -- the first two transfers, each reading a half share of them
  iapply (copy_up m ρ K c _ (dev3_eq c) _ flu) $$ [HbL HlU HO t3 t7]
  · isplitr
    · isplitr; · iexact HI
      isplitr; · iexact Hr7
      iexact HR
    isplitl [HbL]; · iexact HbL
    isplitl [HlU]; · iexact HlU
    isplitl [HO]; · iexact HO
    isplitl [t3]; · iexact t3
    iexact t7
  iintro ⟨k3, HO⟩
  iapply (copy_dn m ρ K c _ (dev4_eq c) _ frd) $$ [HbR HrD HO t4 t8]
  · isplitr
    · isplitr; · iexact HI
      isplitr; · iexact Hr8
      iexact HR
    isplitl [HbR]; · iexact HbR
    isplitl [HrD]; · iexact HrD
    isplitl [HO]; · iexact HO
    isplitl [t4]; · iexact t4
    iexact t8
  iintro ⟨k4, HO⟩
  -- its own block of the result
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := (Rect.unit (s := S2048x512) (k0_off1 c) S512x512.size (k0_off1_inb c))) (Mk := Finset.univ) (Finset.subset_univ _)) $$ Ho; iintro Ho
  -- the rows from below have landed; their top half goes on up
  iapply (wp_landed m ρ c 7 (by decide) (K (c, 5)) N (owe2 c) _ (above2 c (Nat.lt_succ_self 2)) (src := bM) (dst := lM) rfl rfl) $$ [k7 HO p7]
  · isplitr; · iapply (inv_of m ρ K (c, 5)); iexact HI
    isplitr; · iexact Hlev
    isplitl [k7]; · iexact k7
    isplitl [HO]; · iexact HO
    iexact p7
  iintro ⟨HO, p7, Hl⟩
  ihave Hl0 := (Entails.of_eq (show handed m ρ c (7 : DmaSem sig).val = held lM fullShare c (packed m ρ (dn c)) from rfl)) $$ Hl
  ihave Hl2 := (held_halves lM c (packed m ρ (dn c))).1 $$ Hl0
  icases Hl2 with ⟨HlL, HlR⟩
  ihave HlR2 := (l_rows fullShare.right c (packed m ρ (dn c))).1 $$ HlR
  icases HlR2 with ⟨HlRT, HlRB⟩
  iapply (pass_up m ρ K c _ (dev5_eq c) _ ftu) $$ [HlRT HfTU HO t5 t9]
  · isplitr
    · isplitr; · iexact HI
      isplitr; · iexact Hr9
      iexact HR
    isplitl [HlRT]; · iexact HlRT
    isplitl [HfTU]; · iexact HfTU
    isplitl [HO]; · iexact HO
    isplitl [t5]; · iexact t5
    iexact t9
  iintro ⟨k5, HO⟩
  -- the rows from above have landed; their bottom half goes on down
  iapply (wp_landed m ρ c 8 (by decide) (K (c, 6)) N (owe3 c) _ (above3 c (Nat.lt_succ_self 2)) (src := bM) (dst := rM) rfl rfl) $$ [k8 HO p8]
  · isplitr; · iapply (inv_of m ρ K (c, 6)); iexact HI
    isplitr; · iexact Hlev
    isplitl [k8]; · iexact k8
    isplitl [HO]; · iexact HO
    iexact p8
  iintro ⟨HO, p8, Hr⟩
  ihave Hr0 := (Entails.of_eq (show handed m ρ c (8 : DmaSem sig).val = held rM fullShare c (packed m ρ (up c)) from rfl)) $$ Hr
  ihave Hrr2 := (held_halves rM c (packed m ρ (up c))).1 $$ Hr0
  icases Hrr2 with ⟨HrL, HrR⟩
  ihave HrR2 := (r_rows fullShare.right c (packed m ρ (up c))).1 $$ HrR
  icases HrR2 with ⟨HrRT, HrRB⟩
  iapply (pass_dn m ρ K c _ (dev6_eq c) _ fbd) $$ [HrRB HfBD HO t6 t10]
  · isplitr
    · isplitr; · iexact HI
      isplitr; · iexact Hr10
      iexact HR
    isplitl [HrRB]; · iexact HrRB
    isplitl [HfBD]; · iexact HfBD
    isplitl [HO]; · iexact HO
    isplitl [t6]; · iexact t6
    iexact t10
  iintro ⟨k6, HO⟩
  -- the block of the device below
  ihave HlL' := (Entails.of_eq (held_l fullShare.left c (packed m ρ (dn c)))) $$ HlL
  iapply (wp_load 𝒱₀ (c : Thread nD τ) none Set.univ (m := lM) (Finset.subset_univ _)) $$ HlL'; iintro HlL'
  rw [read_l]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := (Rect.unit (s := S2048x512) (k0_off2 c) S512x512.size (k0_off2_inb c))) (Mk := Finset.univ) (Finset.subset_univ _)) $$ Ho; iintro Ho
  -- the block of the device above
  ihave HrL' := (Entails.of_eq (held_r fullShare.left c (packed m ρ (up c)))) $$ HrL
  iapply (wp_load 𝒱₀ (c : Thread nD τ) none Set.univ (m := rM) (Finset.subset_univ _)) $$ HrL'; iintro HrL'
  rw [read_r]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := (Rect.unit (s := S2048x512) (k0_off3 c) S512x512.size (k0_off3_inb c))) (Mk := Finset.univ) (Finset.subset_univ _)) $$ Ho; iintro Ho
  -- the block of the device two away, top rows then bottom rows
  iapply (wp_landed m ρ c 9 (by decide) (K (c, 7)) Nh 0 _ (above_zero _) (src := lTop) (dst := fTop) rfl rfl) $$ [k9 HO p9]
  · isplitr; · iapply (inv_of m ρ K (c, 7)); iexact HI
    isplitr; · iexact Hlev
    isplitl [k9]; · iexact k9
    isplitl [HO]; · iexact HO
    iexact p9
  iintro ⟨HO, p9, HfT⟩
  ihave HfT0 := (Entails.of_eq (show handed m ρ c (9 : DmaSem sig).val = (fM.access topR).loc (c : Thread nD τ) ↦[(fM.access topR).set]{fullShare} (packed m ρ (opp c)) from rfl)) $$ HfT
  iapply (wp_load_rect 𝒱₀ (c : Thread nD τ) none Set.univ (m := fM) (r := topR) (S := (fM.access topR).set) (Finset.Subset.refl _)) $$ HfT0; iintro HfT0
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := (Rect.unit (s := S2048x512) (k0_off4 c 0#32) S256x512.size (k0_off4_inb c 0))) (Mk := Finset.univ) (Finset.subset_univ _)) $$ Ho; iintro Ho
  iapply (wp_landed m ρ c 10 (by decide) (K (c, 8)) Nh 0 _ (above_zero _) (src := rBot) (dst := fBot) rfl rfl) $$ [k10 HO p10]
  · isplitr; · iapply (inv_of m ρ K (c, 8)); iexact HI
    isplitr; · iexact Hlev
    isplitl [k10]; · iexact k10
    isplitl [HO]; · iexact HO
    iexact p10
  iintro ⟨HO, p10, HfB⟩
  ihave HfB0 := (Entails.of_eq (show handed m ρ c (10 : DmaSem sig).val = (fM.access botR).loc (c : Thread nD τ) ↦[(fM.access botR).set]{fullShare} (packed m ρ (opp c)) from rfl)) $$ HfB
  iapply (wp_load_rect 𝒱₀ (c : Thread nD τ) none Set.univ (m := fM) (r := botR) (S := (fM.access botR).set) (Finset.Subset.refl _)) $$ HfB0; iintro HfB0
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := (Rect.unit (s := S2048x512) (k0_off4 c 256#32) S256x512.size (k0_off4_inb c 1))) (Mk := Finset.univ) (Finset.subset_univ _)) $$ Ho; iintro Ho
  -- the four sends are over: the shares lent come back
  iapply (wp_landed m ρ c 3 (by decide) (K (c, 1)) N 0 _ (above_zero _) (src := lM) (dst := bM) rfl rfl) $$ [k3 HO p3]
  · isplitr; · iapply (inv_of m ρ K (c, 1)); iexact HI
    isplitr; · iexact Hlev
    isplitl [k3]; · iexact k3
    isplitl [HO]; · iexact HO
    iexact p3
  iintro ⟨HO, p3, HbL⟩
  ihave HbL := (Entails.of_eq (show handed m ρ c (3 : DmaSem sig).val = held bM fullShare.left c (packed m ρ c) from rfl)) $$ HbL
  iapply (wp_landed m ρ c 4 (by decide) (K (c, 2)) N 0 _ (above_zero _) (src := rM) (dst := bM) rfl rfl) $$ [k4 HO p4]
  · isplitr; · iapply (inv_of m ρ K (c, 2)); iexact HI
    isplitr; · iexact Hlev
    isplitl [k4]; · iexact k4
    isplitl [HO]; · iexact HO
    iexact p4
  iintro ⟨HO, p4, HbR⟩
  ihave HbR := (Entails.of_eq (show handed m ρ c (4 : DmaSem sig).val = held bM fullShare.right c (packed m ρ c) from rfl)) $$ HbR
  iapply (wp_landed m ρ c 5 (by decide) (K (c, 3)) Nh 0 _ (above_zero _) (src := fTop) (dst := lTop) rfl rfl) $$ [k5 HO p5]
  · isplitr; · iapply (inv_of m ρ K (c, 3)); iexact HI
    isplitr; · iexact Hlev
    isplitl [k5]; · iexact k5
    isplitl [HO]; · iexact HO
    iexact p5
  iintro ⟨HO, p5, HlRT⟩
  ihave HlRT := (Entails.of_eq (show handed m ρ c (5 : DmaSem sig).val = held lTop fullShare.right c (packed m ρ (dn c)) from rfl)) $$ HlRT
  iapply (wp_landed m ρ c 6 (by decide) (K (c, 4)) Nh 0 _ (above_zero _) (src := fBot) (dst := rBot) rfl rfl) $$ [k6 HO p6]
  · isplitr; · iapply (inv_of m ρ K (c, 4)); iexact HI
    isplitr; · iexact Hlev
    isplitl [k6]; · iexact k6
    isplitl [HO]; · iexact HO
    iexact p6
  iintro ⟨HO, p6, HrRB⟩
  ihave HrRB := (Entails.of_eq (show handed m ρ c (6 : DmaSem sig).val = held rBot fullShare.right c (packed m ρ (up c)) from rfl)) $$ HrRB
  -- every cell closed at zero
  imod (cell_done m ρ K (c, 0)) $$ [pB] with zB
  · isplitr; · iexact HI
    iexact pB
  imod (cell_done m ρ K (c, 1)) $$ [p3] with z3
  · isplitr; · iexact HI
    iexact p3
  imod (cell_done m ρ K (c, 2)) $$ [p4] with z4
  · isplitr; · iexact HI
    iexact p4
  imod (cell_done m ρ K (c, 3)) $$ [p5] with z5
  · isplitr; · iexact HI
    iexact p5
  imod (cell_done m ρ K (c, 4)) $$ [p6] with z6
  · isplitr; · iexact HI
    iexact p6
  imod (cell_done m ρ K (c, 5)) $$ [p7] with z7
  · isplitr; · iexact HI
    iexact p7
  imod (cell_done m ρ K (c, 6)) $$ [p8] with z8
  · isplitr; · iexact HI
    iexact p8
  imod (cell_done m ρ K (c, 7)) $$ [p9] with z9
  · isplitr; · iexact HI
    iexact p9
  imod (cell_done m ρ K (c, 8)) $$ [p10] with z10
  · isplitr; · iexact HI
    iexact p10
  rw [wp_ret]; imodintro
  iapply Hk
  unfold exit after scratch zeros
  isplitl [HbL HbR HlL' HlRT HlRB HrL' HrRT HrRB HfT0 HfB0 zB z3 z4 z5 z6 z7 z8 z9 z10 HO]
  · isplitr [HO]
    · isplitr [zB z3 z4 z5 z6 z7 z8 z9 z10]
      · isplitl [HbL HbR]
        · iexists (packed m ρ c); iapply (held_halves bM c (packed m ρ c)).2
          isplitl [HbL]; · iexact HbL
          iexact HbR
        isplitl [HlL' HlRT HlRB]
        · iexists (packed m ρ (dn c)); iapply (held_halves lM c (packed m ρ (dn c))).2
          isplitl [HlL']; · rw [held_l]; iexact HlL'
          iapply (l_rows fullShare.right c (packed m ρ (dn c))).2
          isplitl [HlRT]; · iexact HlRT
          iexact HlRB
        isplitl [HrL' HrRT HrRB]
        · iexists (packed m ρ (up c)); iapply (held_halves rM c (packed m ρ (up c))).2
          isplitl [HrL']; · rw [held_r]; iexact HrL'
          iapply (r_rows fullShare.right c (packed m ρ (up c))).2
          isplitl [HrRT]; · iexact HrRT
          iexact HrRB
        iexists (packed m ρ (opp c)); iapply (f_rows fullShare c (packed m ρ (opp c))).2
        isplitl [HfT0]; · unfold held; iexact HfT0
        unfold held; iexact HfB0
      isplitl [zB]; · iexact zB
      isplitl [z3]; · iexact z3
      isplitl [z4]; · iexact z4
      isplitl [z5]; · iexact z5
      isplitl [z6]; · iexact z6
      isplitl [z7]; · iexact z7
      isplitl [z8]; · iexact z8
      isplitl [z9]; · iexact z9
      iexact z10
    iexists _; iexact HO
  isplitl [Hx]; · iexact Hx
  isplitl [Hw]; · iexact Hw
  rw [← stores_final m ρ c g]; iexact Ho

end Cert.KernelIdealRun

end
-- ==== Proof.KernelIdealLaunch.lean ====
/-
# The launch: four devices run together

From all counters at zero the nine cells of every device are allocated at once (a device hands its neighbours what
they write before any of them is past its first wait), the duty tokens dealt round the ring, and the run of one body
gives the run of the program: it ends, the inputs are unchanged, every counter is zero, and each device's result is
`finalOut`.
-/
module

public import proofs.«01_k».proof.Proof.KernelIdealExec
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body leaves in the result's staging buffer. -/
theorem after_out (c : Dev nD) : (dats m ρ 0 c).after (2 : Fin 3) t0_0 = finalOut m ρ c := by dsimp only [dats]

set_option maxRecDepth 4000 in
/-- The pipeline's one point: the body from what `dats` says before it to what it says after. -/
theorem body_obligation (c : Dev nD) : BodyObligation (dats (F := F) m ρ 0 c) (defs₀ (F := F)) 𝒱₀ () Set.univ := fun t => by
  rw [pt t]
  rw [bigSep_W0, bigSep_W0]
  simp only [owns_staged]
  rw [show (dats m ρ 0 c).Φ t0_0.castSucc = before m ρ c from rfl, show (dats m ρ 0 c).Φ t0_0.succ = after c from rfl,
    show (dats m ρ 0 c).after (0 : Fin 3) t0_0 = xIn m ρ c from rfl, show (dats m ρ 0 c).after (1 : Fin 3) t0_0 = wIn m ρ c from rfl,
    show (dats m ρ 0 c).after (2 : Fin 3) t0_0 = finalOut m ρ c from after_out m ρ c]
  rw [show defs₀ (F := F) Proc.tc 0 (t0_0, cfg0.slots t0_0) = cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5 from rfl]
  unfold before start Dat.owesAt Pipeline.owesWithin
  rw [show (dats m ρ 0 c).owed t0_0.castSucc = owed₀ c from rfl, show (dats m ρ 0 c).owed t0_0.succ = 0 from rfl]
  iintro ⟨⟨⟨⟨%K, Hg⟩, Hcr, Hlev⟩, Hs⟩, ⟨%W, %hW, HO⟩, ⟨%d0, %g0, %hg0, Hx⟩, ⟨%d1, %g1, %hg1, Hw⟩, ⟨%d2, %g2, %hg2, Ho⟩⟩
  have hx : g0 = xIn m ρ c := by rw [hg0]; unfold Dat.before; rw [if_pos (fetch0_0 t0_0)]; rfl
  have hw : g1 = wIn m ρ c := by rw [hg1]; unfold Dat.before; rw [if_pos (fetch0_1 t0_0)]; rfl
  subst hx hw
  iapply (run_body m ρ K c g2)
  unfold entry buffers
  isplitl
  · isplitr [Hx Hw Ho]
    · isplitl [Hg]; · iexact Hg
      isplitl [Hcr]; · iexact Hcr
      isplitl [Hlev]; · iexact Hlev
      isplitl [Hs]; · iexact Hs
      iexists W; iexact HO
    isplitl [Hx]; · iexact Hx
    isplitl [Hw]; · iexact Hw
    iexact Ho
  unfold exit
  iintro ⟨⟨Ha, ⟨%W', HO⟩⟩, Hx, Hw, Ho⟩
  isplitl [Ha]; · iexact Ha
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-! ## The cells and the tokens -/

/-- The facts that the launch needs of the kernel's own semaphores. -/
theorem own_sems : Pipeline.OwnSemFacts cfg0.spec osem := by decide
/-- Every window is staged at the full share. -/
theorem whole_share (c : Dev nD) (w : Fin cfg0.W) : (dats m ρ 0 c).share w = fullShare := by unfold Dat.share; split <;> rfl

/-- The nine semaphores of a device are distinct. -/
theorem csem_injective : Function.Injective csem := by decide
/-- The cells of all the devices are distinct. -/
theorem cellAt_injective : Function.Injective (cellAt : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨cellAt, cellAt_injective⟩

/-- A device's duties: one per cell named `false`, and the barrier's second, `true`. -/
abbrev duty : Fin 10 → SemLoc sig × Bool := fun
  | 0 => (.reg barS, true) | 1 => (.reg barS, false) | 2 => (.dma 3, false) | 3 => (.dma 4, false) | 4 => (.dma 5, false) | 5 => (.dma 6, false)
  | 6 => (.dma 7, false) | 7 => (.dma 8, false) | 8 => (.dma 9, false) | 9 => (.dma 10, false)
abbrev dutyAt (cj : Dev nD × Fin 10) : GSem nD τ sig × ℕ × Bool := (((cj.1 : Thread nD τ), (duty cj.2).1), 0, (duty cj.2).2)
/-- The ten duties of a device are distinct. -/
theorem duty_injective : Function.Injective duty := by decide
/-- The duties of all the devices are distinct. -/
theorem dutyAt_injective : Function.Injective (dutyAt : Dev nD × Fin 10 → GSem nD τ sig × ℕ × Bool) := by
  rintro ⟨c, j⟩ ⟨c', j'⟩ h
  have h1 : c = c' := congrArg (fun x : GSem nD τ sig × ℕ × Bool => x.1.1.1) h
  have h2 : j = j' := duty_injective (Prod.ext (congrArg (fun x : GSem nD τ sig × ℕ × Bool => x.1.2) h) (congrArg (fun x : GSem nD τ sig × ℕ × Bool => x.2.2) h))
  rw [h1, h2]
def allDuties : Finset (GSem nD τ sig × ℕ × Bool) := Finset.univ.map ⟨dutyAt, dutyAt_injective⟩

/-- The launch's element of the ghost algebra: the staging pipeline's and the cells'. -/
def u₀ : UU := (initOf (Pipeline.cells cfgs cellOf_inj) (Pipeline.launchToks cfgs cellOf_inj), initOf allCells allDuties)

/-- The tokens of a device's own cells. -/
def minted (c : Dev nD) : sProp 𝕄 :=
  iprop(dutyTok ER (bCell c) 0 true ∗ dutyTok ER (bCell c) 0 false
    ∗ dutyTok ER (dCell c 3) 0 false ∗ dutyTok ER (dCell c 4) 0 false ∗ dutyTok ER (dCell c 5) 0 false ∗ dutyTok ER (dCell c 6) 0 false
    ∗ dutyTok ER (dCell c 7) 0 false ∗ dutyTok ER (dCell c 8) 0 false ∗ dutyTok ER (dCell c 9) 0 false ∗ dutyTok ER (dCell c 10) 0 false)

/-- A device's share of the launch's element. -/
def G (c : Dev nD) : sProp 𝕄 :=
  iprop((bigSep Finset.univ fun k : Fin 9 => roundState ER (sched m ρ) (cellAt (c, k)) 0)
    ∗ (bigSep Finset.univ fun k : Fin 9 => iprop(atPos ER (cellAt (c, k)) 0 ∅ 0 ∗ reached ER (cellAt (c, k)) 0)) ∗ minted c)
def G' (c : Dev nD) : sProp 𝕄 := iprop(∃ K, ghost m ρ K c)

omit [FloatOps F] in
/-- A separating conjunction over nine, written out. -/
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
/-- A separating conjunction over ten, written out. -/
theorem sep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The element dealt to the devices. -/
theorem deal : BI.own (ER (initOf allCells allDuties)) ⊢ (|==> bigSep Finset.univ (G m ρ) : sProp 𝕄) := by
  have hC (Φ : GSem nD τ sig → sProp 𝕄) : bigSep allCells Φ = bigSep Finset.univ fun c : Dev nD => bigSep Finset.univ fun k : Fin 9 => Φ (cellAt (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    exact bigSep_congr fun c _ => by unfold minted; rw [sep10]; rfl
  iintro HX
  imod (Rounds.fund ER (sched m ρ) allCells allDuties) $$ HX with ⟨Hst, Hr, Hat, Htok⟩
  imodintro
  ihave Hst' := (Entails.of_eq (hC fun g => roundState ER (sched m ρ) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own counters at zero are its eight transfer cells at zero. -/
theorem scoped_sems (c : Dev nD) : (Pipeline.ownSems0 (Ix := Unit) (Name := ℕ) (U := UU) (Lvl := ℕ) (Val := Elt F) (τ := τ) osem c : sProp 𝕄)
    = iprop(semVal (dCell c 3) 0 ∗ semVal (dCell c 4) 0 ∗ semVal (dCell c 5) 0 ∗ semVal (dCell c 6) 0
      ∗ semVal (dCell c 7) 0 ∗ semVal (dCell c 8) 0 ∗ semVal (dCell c 9) 0 ∗ semVal (dCell c 10) 0) := by
  rw [Pipeline.ownSems0_eq_of_list c osem [0, 1, 2, 3, 4, 5, 6, 7] (by decide) (by decide)]; rfl
omit [FloatOps F] in
/-- The one counter outside the kernel's own is the barrier's. -/
theorem barrier_sem (c : Dev nD) : (unscopedSems0 c : sProp 𝕄) = semVal (bCell c) 0 := by
  unfold unscopedSems0; rw [bigSep_eq_bigSepL_of_eq [SemLoc.reg barS] (by decide) (by decide)]; rfl

/-- One device's nine cells made into invariants. -/
theorem allocate (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (cellAt (c, k))))
          ∗ (bigSep Finset.univ fun k => iprop(atPos ER (cellAt (c, k)) 0 ∅ 0 ∗ reached ER (cellAt (c, k)) 0)) ∗ minted c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Fin 9 => semVal (cellAt (c, k)) 0 : sProp 𝕄) from by
        rw [scoped_sems, barrier_sem, sep9]; iintro ⟨H, HB⟩
        isplitl [HB]; · iexact HB
        iexact H) $$ [Hos Hus]
  · isplitl [Hos] <;> iassumption
  imod (show iprop((bigSep Finset.univ fun k : Fin 9 => semVal (cellAt (c, k)) 0) ∗ bigSep Finset.univ fun k : Fin 9 => roundState ER (sched m ρ) (cellAt (c, k)) 0)
      ⊢ (|={Set.univ}=> bigSep Finset.univ fun k => iprop(∃ κ : ℕ, cellInv ER (sched m ρ) κ (cellAt (c, k))) : sProp 𝕄) from by
        rw [← bigSep_sep']
        exact (bigSep_mono fun k _ => (Rounds.body_intro ER (sched m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens passed round the ring to the devices that pay with them. -/
theorem pass_tokens : (bigSep Finset.univ fun c : Dev nD => (minted c : sProp 𝕄)) ⊢ bigSep Finset.univ fun c : Dev nD => dues c := by
  unfold minted dues
  simp only [bigSep_sep']
  rw [bigSep_univ_equiv turn.symm (fun c : Dev nD => (dutyTok ER (bCell c) 0 true : sProp 𝕄)),
    bigSep_univ_equiv turn (fun c : Dev nD => (dutyTok ER (bCell c) 0 false : sProp 𝕄)),
    bigSep_univ_equiv turn (fun c : Dev nD => (dutyTok ER (dCell c 7) 0 false : sProp 𝕄)),
    bigSep_univ_equiv turn.symm (fun c : Dev nD => (dutyTok ER (dCell c 8) 0 false : sProp 𝕄)),
    bigSep_univ_equiv turn (fun c : Dev nD => (dutyTok ER (dCell c 9) 0 false : sProp 𝕄)),
    bigSep_univ_equiv turn.symm (fun c : Dev nD => (dutyTok ER (dCell c 10) 0 false : sProp 𝕄))]
  iintro H; iexact H

/-- What a device takes out of the common records and its own places and tokens. -/
theorem ghost_of (K : Dev nD × Fin 9 → ℕ) (c : Dev nD) :
    iprop((invAll m ρ K ∗ reachedAll (F := F)) ∗ ((bigSep Finset.univ fun k : Fin 9 => atPos ER (cellAt (c, k)) 0 ∅ 0) ∗ dues c)) ⊢ G' m ρ c := by
  unfold G' ghost places
  rw [sep9]
  iintro ⟨⟨#HI, #HR⟩, Hat, Ht⟩
  iexists K
  isplitr; · iexact HI
  isplitr; · iexact HR
  isplitl [Hat]; · iexact Hat
  iexact Ht

omit [FloatOps F] in
/-- A persistent fact joined to every member of a family. -/
theorem sep_persistent {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- What the launch allocates, dealt out to the devices. -/
theorem share_out :
    (bigSep Finset.univ fun c : Dev nD => iprop((bigSep Finset.univ fun k => iprop(∃ κ : ℕ, cellInv ER (sched m ρ) κ (cellAt (c, k))))
          ∗ (bigSep Finset.univ fun k => iprop(atPos ER (cellAt (c, k)) 0 ∅ 0 ∗ reached ER (cellAt (c, k)) 0)) ∗ minted c) : sProp 𝕄)
      ⊢ bigSep Finset.univ (G' m ρ) := by
  rw [bigSep_sep', bigSep_sep', ← bigSep_univ_prod (fun ck : Dev nD × Fin 9 => iprop(∃ κ : ℕ, cellInv ER (sched m ρ) κ (cellAt ck))),
    bigSep_congr (s := Finset.univ) (fun (c : Dev nD) _ => bigSep_sep' Finset.univ (fun k : Fin 9 => (atPos ER (cellAt (c, k)) 0 ∅ 0 : sProp 𝕄)) (fun k => reached ER (cellAt (c, k)) 0)),
    bigSep_sep', ← bigSep_univ_prod (fun ck : Dev nD × Fin 9 => (reached ER (cellAt ck) 0 : sProp 𝕄))]
  iintro ⟨HI, ⟨Hat, #HR⟩, Htok⟩
  ihave HK := (BI.bigSep_exists_pi Finset.univ (fun (ck : Dev nD × Fin 9) (κ : ℕ) => (cellInv ER (sched m ρ) κ (cellAt ck) : sProp 𝕄))) $$ HI
  icases HK with ⟨%K, #HI⟩
  ihave Htk := (pass_tokens (F := F)) $$ Htok
  iapply (sep_persistent (R := iprop(invAll m ρ K ∗ reachedAll (F := F))) fun c => ghost_of m ρ K c)
  isplitr
  · unfold invAll reachedAll; isplitl; · iexact HI
    iexact HR
  · rw [bigSep_sep']
    isplitl [Hat]; · iexact Hat
    iexact Htk

/-- All devices' cells allocated together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => allocate m ρ c).trans (bigSep_fupd _ _)).trans (BI.fupd_mono (share_out m ρ))

/-! ## What the others owe a device at launch -/

/-- A tally to a cell of device `n`, read at the same semaphore of device `c`. -/
theorem tally_same (n c : Dev nD) (sm : SemLoc sig) (k : ℕ) :
    (tallyAt ((n : Thread nD τ), sm) () k : CellTallies nD τ sig Unit) ((c : Thread nD τ), sm) () = if n = c then k else 0 := by
  rw [tallyAt_apply]
  by_cases h : n = c
  · subst h; rw [if_pos ⟨rfl, rfl⟩, if_pos rfl]
  · rw [if_neg (fun e => h (congrArg (fun g : GSem nD τ sig => g.1.1) e.1).symm), if_neg h]
/-- Read at another semaphore, nothing. -/
theorem tally_other (n c : Dev nD) (sm sm' : SemLoc sig) (k : ℕ) (h : sm' ≠ sm) :
    (tallyAt ((n : Thread nD τ), sm) () k : CellTallies nD τ sig Unit) ((c : Thread nD τ), sm') () = 0 := by
  rw [tallyAt_apply, if_neg fun e => h (congrArg Prod.snd e.1)]

/-- Summed over the devices, what is owed to the one above counts once. -/
theorem sum_up (c : Dev nD) (k : ℕ) : (∑ d : Dev nD, if up d = c then k else 0) = k := by
  rw [Finset.sum_congr rfl fun d _ => if_congr (show up d = c ↔ d = dn c from ⟨fun h => by rw [← h, dn_up], fun h => by rw [h, up_dn]⟩) rfl rfl,
    Finset.sum_ite_eq' Finset.univ (dn c) fun _ => k, if_pos (Finset.mem_univ _)]
/-- Summed over the devices, what is owed to the one below counts once. -/
theorem sum_dn (c : Dev nD) (k : ℕ) : (∑ d : Dev nD, if dn d = c then k else 0) = k := by
  rw [Finset.sum_congr rfl fun d _ => if_congr (show dn d = c ↔ d = up c from ⟨fun h => by rw [← h, up_dn], fun h => by rw [h, dn_up]⟩) rfl rfl,
    Finset.sum_ite_eq' Finset.univ (up c) fun _ => k, if_pos (Finset.mem_univ _)]

/-- What device `d` owes at `g`, term by term. -/
theorem owed_at (d : Dev nD) (g : GSem nD τ sig) : owed₀ d g () =
    ((((tallyAt (dCell (dn d) 10) () Nh : CellTallies nD τ sig Unit) g () + (tallyAt (dCell (up d) 9) () Nh : CellTallies nD τ sig Unit) g ())
      + (tallyAt (dCell (dn d) 8) () N : CellTallies nD τ sig Unit) g ()) + (tallyAt (dCell (up d) 7) () N : CellTallies nD τ sig Unit) g ()
      + (tallyAt (bCell (up d)) () 1 : CellTallies nD τ sig Unit) g ()) + (tallyAt (bCell (dn d)) () 1 : CellTallies nD τ sig Unit) g () := rfl

/-- The launch credit of one cell, from the sum of what all the devices owe it. -/
theorem credit_of (g : GSem nD τ sig) (k : ℕ) (h : ∑ d : Dev nD, owed₀ d g () = k) :
    tallyOn g (launchCredit (Pipeline.owing owed₀) 0 g) = (tallyAt g () k : CellTallies nD τ sig Unit) := by
  unfold tallyAt; refine congrArg _ (Finsupp.ext fun u => ?_); cases u
  rw [Pipeline.launchCredit_owing, Finsupp.single_eq_same, h]

/-- The barrier of each device is owed two units. -/
theorem owed_bar (c : Dev nD) : ∑ d : Dev nD, owed₀ d (bCell c) () = 2 := by
  simp only [owed_at, tally_same]
  simp only [tally_other _ c (.dma 10) (.reg barS) _ (by decide), tally_other _ c (.dma 9) (.reg barS) _ (by decide), tally_other _ c (.dma 8) (.reg barS) _ (by decide),
    tally_other _ c (.dma 7) (.reg barS) _ (by decide), Nat.zero_add, Nat.add_zero]
  rw [Finset.sum_add_distrib, sum_up, sum_dn]
/-- The first receive cell is owed a whole copy. -/
theorem owed_7 (c : Dev nD) : ∑ d : Dev nD, owed₀ d (dCell c 7) () = N := by
  simp only [owed_at, tally_same]
  simp only [tally_other _ c (.dma 10) (.dma 7) _ (by decide), tally_other _ c (.dma 9) (.dma 7) _ (by decide), tally_other _ c (.dma 8) (.dma 7) _ (by decide),
    tally_other _ c (.reg barS) (.dma 7) _ (by decide), Nat.zero_add, Nat.add_zero]
  exact sum_up c N
/-- The second receive cell is owed a whole copy. -/
theorem owed_8 (c : Dev nD) : ∑ d : Dev nD, owed₀ d (dCell c 8) () = N := by
  simp only [owed_at, tally_same]
  simp only [tally_other _ c (.dma 10) (.dma 8) _ (by decide), tally_other _ c (.dma 9) (.dma 8) _ (by decide), tally_other _ c (.dma 7) (.dma 8) _ (by decide),
    tally_other _ c (.reg barS) (.dma 8) _ (by decide), Nat.zero_add, Nat.add_zero]
  exact sum_dn c N
/-- The third receive cell is owed half a copy. -/
theorem owed_9 (c : Dev nD) : ∑ d : Dev nD, owed₀ d (dCell c 9) () = Nh := by
  simp only [owed_at, tally_same]
  simp only [tally_other _ c (.dma 10) (.dma 9) _ (by decide), tally_other _ c (.dma 8) (.dma 9) _ (by decide), tally_other _ c (.dma 7) (.dma 9) _ (by decide),
    tally_other _ c (.reg barS) (.dma 9) _ (by decide), Nat.zero_add, Nat.add_zero]
  exact sum_up c Nh
/-- The fourth receive cell is owed half a copy. -/
theorem owed_10 (c : Dev nD) : ∑ d : Dev nD, owed₀ d (dCell c 10) () = Nh := by
  simp only [owed_at, tally_same]
  simp only [tally_other _ c (.dma 9) (.dma 10) _ (by decide), tally_other _ c (.dma 8) (.dma 10) _ (by decide), tally_other _ c (.dma 7) (.dma 10) _ (by decide),
    tally_other _ c (.reg barS) (.dma 10) _ (by decide), Nat.zero_add, Nat.add_zero]
  exact sum_dn c Nh

omit [FloatOps F] in
/-- The launch credit gives a device the credits that its waits spend. -/
theorem credits_intro (c : Dev nD) : (Pipeline.launchCred owed₀ c : sProp 𝕄) ⊢ credits c := by
  unfold Pipeline.launchCred credits
  refine (BI.bigSep_subset (Finset.subset_univ ({SemLoc.reg barS, .dma 7, .dma 8, .dma 9, .dma 10} : Finset (SemLoc sig)))).trans ?_
  rw [bigSep_eq_bigSepL_of_eq [SemLoc.reg barS, .dma 7, .dma 8, .dma 9, .dma 10] (by decide) (by decide)]
  simp only [bigSepL_cons_cons, bigSepL_singleton]
  rw [credit_of _ _ (owed_bar c), credit_of _ _ (owed_7 c), credit_of _ _ (owed_8 c), credit_of _ _ (owed_9 c), credit_of _ _ (owed_10 c)]
  exact BI.Entails.refl _

/-! ## In and out -/

/-- What a device holds at launch is what its body starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    isplitl [Hc]; · iexact Hc
    iexact Hlev
  · iempintro

/-- Entering the call: the launch's resources are the body's. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  simp only [held_b, held_l, held_r, held_f]
  iintro ⟨Hs, -, Hr⟩
  isplitl [Hs]; · iexact Hs
  iexact Hr

/-- Leaving the call: what the body ends with closes the launch. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, scoped_sems, barrier_sem]
  unfold after scratch zeros
  simp only [held_b, held_l, held_r, held_f]
  iintro ⟨Hr, HzB, Hz⟩
  isplitl [HzB]; · iexact HzB
  isplitl [Hz]; · iexact Hz
  iexact Hr

/-- The staging semaphores lie at the lowest level. -/
theorem stage_level (c : Dev nD) : ∀ (w : Fin cfg0.W) (s : Fin (cfg0.win w).nbuf), lv ((c : Thread nD τ), .dma ((cfg0.win w).sem s)) () = 0 := by
  intro w s; fin_cases w <;> fin_cases s <;> rfl

/-- Every staging wait is below what the device still owes. -/
theorem waits (c : Dev nD) : (levAts L lv : sProp 𝕄) ⊢ Pipeline.cellsWaits cfgs (dats m ρ) () 0 c :=
  Pipeline.cellsWaits_intro cfgs (dats m ρ) () 0 c fun w s t =>
    may_wait c _ _ (by
      rw [stage_level c w s]
      rcases t with ⟨_ | _, ht⟩
      · exact aboveAll c
      · exact above_zero 0)

/-! ## The run -/

/-- What window `w`'s array holds at the end. -/
def ending (c : Dev nD) (w : Fin cfg0.W) : Buf (Elt F) ((cfg0.win w).arr.view.loc (c : Thread nD τ)) := (dats m ρ 0 c).arrAt w cfg0.N

def Ended : PUnit × MemSt nD τ sig (Elt F) → Prop := fun r =>
  ∀ c : Dev nD, ∀ w : Fin cfg0.W, r.2.mem ((cfg0.win w).arr.view.loc (c : Thread nD τ)) = ending m ρ c w

set_option maxRecDepth 8000 in
/-- From any memory with counters at zero the four devices' program ends, whatever the schedule, with every array at
    `ending` and every counter at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := whole_share m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows and the columns are left as they were. -/
theorem ending_x (c : Dev nD) : ending m ρ c (0 : Fin 3) = m (win0_0.arr.view.loc (c : Thread nD τ)) :=
  (dats (F := F) m ρ 0 c).arrAt_in (0 : Fin 3) rfl _
/-- The columns of `w` end as they began. -/
theorem ending_w (c : Dev nD) : ending m ρ c (1 : Fin 3) = m (win0_1.arr.view.loc (c : Thread nD τ)) :=
  (dats (F := F) m ρ 0 c).arrAt_in (1 : Fin 3) rfl _

end Cert.KernelIdealRun

end
-- ==== Proof.Gate.lean ====
/-
# The arithmetic of one element

At the exact instance an element of either program is a function of `y`, the product of a row of `x` and a column of
`w`: the kernel's is `y · logistic y`, the reference's `y / (1 + exp (-clip y))`. They are one function where the clip
does nothing, that is where `|y| ≤ 60`; and a row and a column whose squares sum to at most 2880 and 1.25 have a finite
product of at most `√(2880 · 1.25) = 60` in absolute value.
-/
module

public import Idealize.ShloMosaic.PureOps.Ideal
public import Idealize.ShloMosaic.PureOps.Ideal.Laws
public import Mathlib.Algebra.Order.BigOperators.Ring.Finset
public import Mathlib.Analysis.SpecialFunctions.Exp

@[expose] public section

noncomputable section

namespace Cert.Gate

open Idealize.ShloMosaic

/-! ## Sums of squares -/

/-- A square is not negative. -/
theorem sq_nonneg (a : EReal) : 0 ≤ a * a := by
  induction a using EReal.rec with
  | bot => rw [EReal.bot_mul_bot]; exact le_top
  | top => rw [EReal.top_mul_top]; exact le_top
  | coe r => exact_mod_cast mul_self_nonneg r

/-- One square is at most the sum of all. -/
theorem sq_le_sum {n : ℕ} (a : Fin n → EReal) (k : Fin n) : a k * a k ≤ ∑ i, a i * a i :=
  Finset.single_le_sum (f := fun i => a i * a i) (fun i _ => sq_nonneg (a i)) (Finset.mem_univ k)

/-- Entries whose squares have a finite sum are finite. -/
theorem finite_of_sum {n : ℕ} {a : Fin n → EReal} {C : ℝ} (h : ∑ i, a i * a i ≤ (C : EReal)) : ∃ r : Fin n → ℝ, a = fun i => (r i : EReal) := by
  have hk : ∀ k, ∃ r : ℝ, a k = (r : EReal) := fun k => by
    have hle : a k * a k ≤ (C : EReal) := (sq_le_sum a k).trans h
    generalize a k = b at hle
    induction b using EReal.rec with
    | bot => rw [EReal.bot_mul_bot] at hle; exact absurd hle (not_le.2 (EReal.coe_lt_top C))
    | top => rw [EReal.top_mul_top] at hle; exact absurd hle (not_le.2 (EReal.coe_lt_top C))
    | coe r => exact ⟨r, rfl⟩
  choose r hr using hk
  exact ⟨r, funext hr⟩

/-- A sum of finite entries is the sum in the reals. -/
theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- Cauchy and Schwarz: the product of a row and a column so bounded is finite and at most 60. -/
theorem product_bounded {n : ℕ} {a b : Fin n → EReal} (ha : ∑ i, a i * a i ≤ ((2880 : ℝ) : EReal)) (hb : ∑ i, b i * b i ≤ ((1.25 : ℝ) : EReal)) :
    ∃ y : ℝ, ∑ i, a i * b i = (y : EReal) ∧ -60 ≤ y ∧ y ≤ 60 := by
  obtain ⟨r, rfl⟩ := finite_of_sum ha
  obtain ⟨s, rfl⟩ := finite_of_sum hb
  simp only [← EReal.coe_mul, sum_coe, EReal.coe_le_coe_iff] at ha hb ⊢
  refine ⟨_, rfl, ?_⟩
  have hcs := Finset.sum_mul_sq_le_sq_mul_sq Finset.univ r s
  simp only [pow_two] at hcs
  have hs : 0 ≤ ∑ i, s i * s i := Finset.sum_nonneg fun i _ => mul_self_nonneg (s i)
  have hle : (∑ i, r i * s i) * (∑ i, r i * s i) ≤ 60 * 60 := by nlinarith
  exact abs_le.1 (abs_le_of_sq_le_sq (by simpa [pow_two] using hle) (by norm_num))

/-! ## The gate -/

/-- What the kernel computes of a product. -/
def gate (y : EReal) : EReal := y * Ideal.logistic y

/-- One more than an exponential is not zero. -/
theorem one_add_exp_ne_zero (z : EReal) : 1 + Ideal.exp z ≠ 0 := by
  have h : (0 : EReal) ≤ Ideal.exp z := by
    induction z using EReal.rec with
    | bot => exact le_refl _
    | top => exact le_top
    | coe r => exact EReal.coe_nonneg.2 (Real.exp_pos r).le
  exact (lt_of_lt_of_le zero_lt_one (le_add_of_nonneg_right h)).ne'

/-- The reference without its clip: dividing by `1 + exp (-y)` is multiplying by the logistic function, at the
    infinities too. -/
theorem div_eq_gate (y : EReal) : Ideal.div y (1 + Ideal.exp (-y)) = gate y := by
  unfold gate Ideal.logistic Ideal.div
  rw [if_neg (one_add_exp_ne_zero _), if_neg (one_add_exp_ne_zero _), one_mul]

/-- On a finite number of absolute value at most 60 the clip does nothing. -/
theorem clip_eq {y : ℝ} (h1 : -60 ≤ y) (h2 : y ≤ 60) : min ((60 : ℝ) : EReal) (max ((-60 : ℝ) : EReal) (y : EReal)) = (y : EReal) := by
  rw [max_eq_right (EReal.coe_le_coe_iff.2 h1), min_eq_right (EReal.coe_le_coe_iff.2 h2)]

/-! ## The four constants -/

/-- The bound of a row. -/
theorem lit_2880 : Ideal.ofBits .f32 0x45340000#32 = ((2880 : ℝ) : EReal) := by
  simp [Ideal.ofBits, Ideal.ieee, -EReal.coe_mul]; norm_num
/-- The bound of a column. -/
theorem lit_1_25 : Ideal.ofBits .f32 0x3FA00000#32 = ((1.25 : ℝ) : EReal) := by
  simp [Ideal.ofBits, Ideal.ieee, -EReal.coe_mul]; norm_num
/-- The upper end of the clip. -/
theorem lit_60 : Ideal.ofBits .f32 0x42700000#32 = ((60 : ℝ) : EReal) := by
  simp [Ideal.ofBits, Ideal.ieee, -EReal.coe_mul]; norm_num
/-- Its lower end. -/
theorem lit_neg_60 : Ideal.ofBits .f32 0xC2700000#32 = ((-60 : ℝ) : EReal) := by
  simp [Ideal.ofBits, Ideal.ieee, -EReal.coe_mul]; norm_num

end Cert.Gate

end
-- ==== Proof.KernelIdealValue.lean ====
/-
# The value: each device's columns of the gated product

At the exact instance the narrowing to bfloat16 and the widening back change nothing, so each of the five products that
device `c` stores is a block of rows of `x` — its own, its neighbours', and those of the device two away in two halves —
times its own columns of `w`, gated. Together they are columns `512 c` to `512 c + 511` of the gated product of the
whole arrays.
-/
module

public import proofs.«01_k».proof.Proof.KernelIdealLaunch
public import proofs.«01_k».proof.Proof.Gate
public import Idealize.ShloMosaic.Lib.Pointwise
public import Idealize.ShloMosaic.Lib.Pipeline.ValueKit
public import Idealize.ShloMosaic.Lib.Layout

@[expose] public section

noncomputable section

namespace Cert.KernelIdealRun

open Cert.KernelIdeal Cert.KernelIdeal.Gen Cert.Gate
open Idealize.ShloMosaic Idealize.ShloMosaic.TcCoe Idealize.SL.RA Idealize.SL.Sem
open Idealize.ShloMosaic.Pipeline Idealize.ShloMosaic.Pointwise

variable (m : (ℓ : Loc nD τ sig) → Buf (Elt Ideal) ℓ) (ρ : Dev nD → PrngReg)

/-! ## What is stored, element by element -/

/-- The narrowed rows are the rows. -/
theorem narrow_id (x : Vec Ideal S512x2048 .f32) : k0_pay1 x = x := by
  unfold k0_pay1; funext j; pointwise

/-- A device's own rows. -/
theorem own_at (x : Vec Ideal S512x2048 .f32) (w : Vec Ideal S2048x512 .f32) (j : S512x512.Idx) :
    k0_pay2 x w j = gate (∑ k : Fin 2048, x (ix2 (j 0) k) * w (ix2 k (j 1))) := by
  pointwise [k0_pay2]; rfl
/-- The rows from below. -/
theorem below_at (x : Vec Ideal S512x2048 .bf16) (w : Vec Ideal S2048x512 .f32) (j : S512x512.Idx) :
    k0_pay3 x w j = gate (∑ k : Fin 2048, x (ix2 (j 0) k) * w (ix2 k (j 1))) := by
  pointwise [k0_pay3]; rfl
/-- The rows from above. -/
theorem above_at (x : Vec Ideal S512x2048 .bf16) (w : Vec Ideal S2048x512 .f32) (j : S512x512.Idx) :
    k0_pay4 x w j = gate (∑ k : Fin 2048, x (ix2 (j 0) k) * w (ix2 k (j 1))) := by
  pointwise [k0_pay4]; rfl
/-- The top half of the rows from two away. -/
theorem top_at (x : Vec Ideal S256x2048 .bf16) (w : Vec Ideal S2048x512 .f32) (j : S256x512.Idx) :
    k0_pay6 (k0_pay5 x) w j = gate (∑ k : Fin 2048, x (ix2 (j 0) k) * w (ix2 k (j 1))) := by
  pointwise [k0_pay6, k0_pay5]; rfl
/-- The bottom half. -/
theorem bottom_at (x : Vec Ideal S256x2048 .bf16) (w : Vec Ideal S2048x512 .f32) (j : S256x512.Idx) :
    k0_pay7 x w j = gate (∑ k : Fin 2048, x (ix2 (j 0) k) * w (ix2 k (j 1))) := by
  pointwise [k0_pay7]; rfl

/-! ## The arrays -/

/-- At the end the result's array is what the body left in its staging buffer. -/
theorem ending_out (c : Dev nD) : ending m ρ c (2 : Fin 3) = finalOut m ρ c := by
  refine (dats m ρ 0 c).arrAt_eq_of_after_last (2 : Fin 3) t0_0 (by decide +kernel) _ fun j => ?_
  blk_simp
  rw [after_out]

/-- The staged rows are the device's rows, the staged columns its columns. -/
theorem xIn_eq (c : Dev nD) : xIn m ρ c = m ((c : Thread nD τ).loc main_arg0) :=
  funext fun y => congrArg (m ((c : Thread nD τ).loc main_arg0)) (funext fun a => Fin.ext (win0_0.rect_emb_val_of_index_zero t0_0 a (by fin_cases a <;> rfl) y))
/-- The staged columns are the device's columns. -/
theorem wIn_eq (c : Dev nD) : wIn m ρ c = m ((c : Thread nD τ).loc main_arg1) :=
  funext fun y => congrArg (m ((c : Thread nD τ).loc main_arg1)) (funext fun a => Fin.ext (win0_1.rect_emb_val_of_index_zero t0_0 a (by fin_cases a <;> rfl) y))

variable {X W : (⟨2, ![2048, 2048]⟩ : Shape).Idx → EReal}

/-- Row `r` of device `d`'s rows is row `512 d + r` of the whole. -/
theorem row_of (hX : ∀ c : Dev nD, m ((c : Thread nD τ).loc main_arg0) = Layout.block ⟨2, ![512, 2048]⟩ ⟨2, ![2048, 2048]⟩ 0 4 c X)
    (d : Dev nD) (r : Fin 512) (R : Fin 2048) (h : R.val = 512 * d.val + r.val) (k : Fin 2048) : xIn m ρ d (ix2 r k) = X (ix2 R k) := by
  rw [xIn_eq, hX d, Layout.block_apply]
  refine congrArg X (funext fun a => Fin.ext ?_)
  fin_cases a
  · refine (Layout.idx_rows_val _ d (ix2 r k)).1.trans ?_
    show d.val * 512 + r.val = R.val
    omega
  · exact (Layout.idx_rows_val _ d (ix2 r k)).2

/-- What device `c` is to hold at `y`. -/
def want (X : (⟨2, ![2048, 2048]⟩ : Shape).Idx → EReal) (w : S2048x512.Idx → EReal) (y : S2048x512.Idx) : EReal :=
  gate (∑ k : Fin 2048, X (ix2 (y 0) k) * w (ix2 k (y 1)))

/-- A block of rows at offset `o`, gated, is what is to be held there. -/
theorem want_block {n : ℕ} (u : (⟨2, ![n, 2048]⟩ : Shape).Idx → EReal) (w : S2048x512.Idx → EReal) (j : (⟨2, ![n, 512]⟩ : Shape).Idx) (y : S2048x512.Idx)
    (h1 : (y 1).val = (j 1).val) (hu : ∀ k : Fin 2048, u (ix2 (j 0) k) = X (ix2 (y 0) k)) :
    gate (∑ k : Fin 2048, u (ix2 (j 0) k) * w (ix2 k (j 1))) = want X w y := by
  unfold want
  have h : (y 1 : Fin 512) = j 1 := Fin.ext h1
  simp only [hu, h]

/-- Where a stored block's element lands: the offset and the element's own coordinate. -/
theorem lands {size off : Fin 2 → ℕ} (inb : ∀ a, off a + size a ≤ S2048x512.size a) (p q : ℕ) (h : off = ![p, q]) (j : (Rect.unit (s := S2048x512) off size inb).shape.Idx) :
    ((Rect.unit (s := S2048x512) off size inb).emb j 0).val = p + (j 0).val ∧ ((Rect.unit (s := S2048x512) off size inb).emb j 1).val = q + (j 1).val := by
  subst h
  exact ⟨ValueKit.rect_emb_unit_val (s := S2048x512) _ size inb j 0, ValueKit.rect_emb_unit_val (s := S2048x512) _ size inb j 1⟩

/-- The top and the bottom rows of the buffer that rows from two away land in, read at an index. -/
theorem top_rows (f : Vec Ideal S512x2048 .bf16) (r : Fin 512) (q : Fin 256) (k : Fin 2048) (h : r.val = 0 + q.val) :
    fM.view.readAt (Elt Ideal) topR.toLoadRect f (ix2 q k) = f (ix2 r k) := by
  refine congrArg f (funext fun a => Fin.ext ?_)
  fin_cases a
  · exact (ValueKit.rect_emb_unit_val (s := S512x2048) ![0, 0] S256x2048.size inb_S512x2048_S256x2048_0_0 (ix2 q k) 0).trans h.symm
  · exact (ValueKit.rect_emb_unit_val (s := S512x2048) ![0, 0] S256x2048.size inb_S512x2048_S256x2048_0_0 (ix2 q k) 1).trans (Nat.zero_add _)
/-- The bottom rows of that buffer, read at an index. -/
theorem bottom_rows (f : Vec Ideal S512x2048 .bf16) (r : Fin 512) (q : Fin 256) (k : Fin 2048) (h : r.val = 256 + q.val) :
    fM.view.readAt (Elt Ideal) botR.toLoadRect f (ix2 q k) = f (ix2 r k) := by
  refine congrArg f (funext fun a => Fin.ext ?_)
  fin_cases a
  · exact (ValueKit.rect_emb_unit_val (s := S512x2048) ![256, 0] S256x2048.size inb_S512x2048_S256x2048_256_0 (ix2 q k) 0).trans h.symm
  · exact (ValueKit.rect_emb_unit_val (s := S512x2048) ![256, 0] S256x2048.size inb_S512x2048_S256x2048_256_0 (ix2 q k) 1).trans (Nat.zero_add _)

/-- Device `c`'s result at each index. -/
theorem finalOut_at (hX : ∀ c : Dev nD, m ((c : Thread nD τ).loc main_arg0) = Layout.block ⟨2, ![512, 2048]⟩ ⟨2, ![2048, 2048]⟩ 0 4 c X)
    (c : Dev nD) (y : S2048x512.Idx) : finalOut m ρ c y = want X (wIn m ρ c) y := by
  unfold finalOut
  refine View.canon_apply_of_pieces (want X (wIn m ρ c)) _ ?_ y (pieces_cover m ρ c y)
  intro p hp
  unfold outPieces at hp
  simp only [List.mem_cons, List.not_mem_nil, or_false] at hp
  rcases hp with rfl | rfl | rfl | rfl | rfl <;> intro x
  · refine (bottom_at _ _ x).trans (want_block _ _ x _ ?_ fun k => ?_)
    · exact (lands (k0_off4_inb c 1) _ _ (off4_bot c) x).2.trans (Nat.zero_add _)
    · unfold packed; rw [narrow_id]
      have hr : (256 + (x 0).val) < 512 := by have : (x 0).val < 256 := (x 0).isLt; omega
      refine (bottom_rows _ ⟨_, hr⟩ (x 0) k rfl).trans (row_of m ρ hX _ _ _ ?_ k)
      exact (lands (k0_off4_inb c 1) _ _ (off4_bot c) x).1.trans (Nat.add_assoc _ _ _)
  · refine (top_at _ _ x).trans (want_block _ _ x _ ?_ fun k => ?_)
    · exact (lands (k0_off4_inb c 0) _ _ (off4_top c) x).2.trans (Nat.zero_add _)
    · unfold packed; rw [narrow_id]
      have hr : (0 + (x 0).val) < 512 := by have : (x 0).val < 256 := (x 0).isLt; omega
      refine (top_rows _ ⟨_, hr⟩ (x 0) k rfl).trans (row_of m ρ hX _ _ _ ?_ k)
      exact (lands (k0_off4_inb c 0) _ _ (off4_top c) x).1.trans (congrArg _ (Nat.zero_add _).symm)
  · refine (above_at _ _ x).trans (want_block _ _ x _ ?_ fun k => ?_)
    · exact (lands (k0_off3_inb c) _ _ (off3_eq c) x).2.trans (Nat.zero_add _)
    · unfold packed; rw [narrow_id]
      exact row_of m ρ hX _ _ _ (lands (k0_off3_inb c) _ _ (off3_eq c) x).1 k
  · refine (below_at _ _ x).trans (want_block _ _ x _ ?_ fun k => ?_)
    · exact (lands (k0_off2_inb c) _ _ (off2_eq c) x).2.trans (Nat.zero_add _)
    · unfold packed; rw [narrow_id]
      exact row_of m ρ hX _ _ _ (lands (k0_off2_inb c) _ _ (off2_eq c) x).1 k
  · refine (own_at _ _ x).trans (want_block _ _ x _ ?_ fun k => ?_)
    · exact (lands (k0_off1_inb c) _ _ (k0_off1_eq c) x).2.trans (Nat.zero_add _)
    · exact row_of m ρ hX _ _ _ (lands (k0_off1_inb c) _ _ (k0_off1_eq c) x).1 k

end Cert.KernelIdealRun

end
-- ==== Proof.Bound.lean ====
/-
# The precondition read, and the reference's element

The precondition's bit is one exactly when every row of a device's block of `x` and every column of its block of `w` has
its sum of squares within the two bounds. The reference's element is the division of a row's and a column's product by
one more than the exponential of its clipped negative.
-/
module

public import proofs.«01_k».proof.Proof.Gate
public import proofs.«01_k».proof.Proof.Gen.Pre_bounded_KernelIdeal
public import proofs.«01_k».proof.Proof.Gen.ReferenceIdeal.Run
public import Idealize.ShloMosaic.Lib.Pointwise
public import Idealize.ShloMosaic.Lib.ReduceAll
public import Idealize.ShloMosaic.Lib.Layout

@[expose] public section

noncomputable section

namespace Cert.Bound

open Cert.Gate
open Idealize.ShloMosaic Idealize.ShloMosaic.Pointwise

/-- A comparison that answers one holds. -/
theorem le_of_cmp {a b : EReal} (h : Ideal.cmp .ole a b = 1#1) : a ≤ b := by
  unfold Ideal.cmp at h
  by_contra hn
  simp [hn] at h

/-- A conjunction of two bits that is one has both one. -/
theorem and_one {a b : BitVec 1} (h : a &&& b = 1#1) : a = 1#1 ∧ b = 1#1 := by
  revert h; revert a b; decide

section Pre
open Cert.Pre_bounded_KernelIdeal Cert.Pre_bounded_KernelIdeal.Facts
variable [Cert.Pre_bounded_KernelIdeal.Facts]

/-- What the precondition says of one device's blocks. -/
theorem decode (x : FVec Ideal S512x2048 .f32) (w : FVec Ideal S2048x512 .f32) (h : fn x w = fun _ => 1#1) :
    (∀ r : Fin 512, ∑ k : Fin 2048, x (ix2 r k) * x (ix2 r k) ≤ ((2880 : ℝ) : EReal))
      ∧ ∀ l : Fin 512, ∑ k : Fin 2048, w (ix2 k l) * w (ix2 k l) ≤ ((1.25 : ℝ) : EReal) := by
  have h0 := congrFun h ix0
  dsimp only [fn] at h0
  obtain ⟨hx, hw⟩ := and_one h0
  constructor
  · intro r
    have e := Host.reduce_andi_all _ _ _ _ _ hx (ix1 r)
    have e' := le_of_cmp e
    pointwise at e'
    rwa [lit_2880] at e'
  · intro l
    have e := Host.reduce_andi_all _ _ _ _ _ hw (ix1 l)
    have e' := le_of_cmp e
    pointwise at e'
    rwa [lit_1_25] at e'

end Pre

section Ref
open Cert.ReferenceIdeal Cert.ReferenceIdeal.Gen

/-- The product of row `i` of `x` and column `j` of `w`. -/
def product (X W : S2048x2048.Idx → EReal) (i j : Fin 2048) : EReal := ∑ k : Fin 2048, X (ix2 i k) * W (ix2 k j)

/-- The reference's result. -/
def result (X W : FVec Ideal S2048x2048 .f32) : FVec Ideal S2048x2048 .f32 :=
  Host.divf (Host.dotGeneral dot_S2048x2048_S2048x2048_S2048x2048_1_0_0_1_n_n none X W)
    (addf (broadcastInDim S2048x2048 ![] bcast_S_S2048x2048 (constant S_ .f32 0x3F800000#32)) (Host.exp (Host.negf (minimumf (broadcastInDim S2048x2048 ![] bcast_S_S2048x2048 (id (constant S_ .f32 0x42700000#32))) (maximumf (broadcastInDim S2048x2048 ![] bcast_S_S2048x2048 (id (constant S_ .f32 0xC2700000#32))) (Host.dotGeneral dot_S2048x2048_S2048x2048_S2048x2048_1_0_0_1_n_n none X W))))))

/-- The reference's result at an index. -/
theorem result_at (X W : FVec Ideal S2048x2048 .f32) (i j : Fin 2048) :
    result X W (ix2 i j) = Ideal.div (product X W i j) (1 + Ideal.exp (-(min ((60 : ℝ) : EReal) (max ((-60 : ℝ) : EReal) (product X W i j))))) := by
  rw [← lit_60, ← lit_neg_60]
  unfold product
  pointwise [result]
  rfl

/-- Where a row of `x` and a column of `w` are bounded, the reference's element is the gate of their product. -/
theorem result_gate (X W : FVec Ideal S2048x2048 .f32) (i j : Fin 2048)
    (hX : ∑ k : Fin 2048, X (ix2 i k) * X (ix2 i k) ≤ ((2880 : ℝ) : EReal))
    (hW : ∑ k : Fin 2048, W (ix2 k j) * W (ix2 k j) ≤ ((1.25 : ℝ) : EReal)) :
    result X W (ix2 i j) = gate (product X W i j) := by
  obtain ⟨y, e, lo, hi⟩ := product_bounded hX hW
  rw [result_at, product, e, clip_eq lo hi, div_eq_gate]

end Ref

end Cert.Bound

end
-- ==== Proof.Equation.lean ====
/-
# The devices' results are the blocks of the reference's result

A row of the whole `x` is a row of one device's block, and a column of the whole `w` a column of one device's block, so
the bounds that the precondition states of each device's blocks are bounds on every row and every column of the whole.
-/
module

public import proofs.«01_k».proof.Proof.KernelIdealValue
public import proofs.«01_k».proof.Proof.Bound

@[expose] public section

noncomputable section

namespace Cert.KernelIdealRun

open Cert.KernelIdeal Cert.KernelIdeal.Gen Cert.Gate
open Idealize.ShloMosaic Idealize.ShloMosaic.TcCoe
open Idealize.ShloMosaic.Pointwise

variable (m : (ℓ : Loc nD τ sig) → Buf (Elt Ideal) ℓ) (ρ : Dev nD → PrngReg)
variable {X W : (⟨2, ![2048, 2048]⟩ : Shape).Idx → EReal}

/-- Column `l` of device `c`'s columns is column `512 c + l` of the whole. -/
theorem col_of (hW : ∀ c : Dev nD, m ((c : Thread nD τ).loc main_arg1) = Layout.block ⟨2, ![2048, 512]⟩ ⟨2, ![2048, 2048]⟩ 1 4 c W)
    (c : Dev nD) (l : Fin 512) (L : Fin 2048) (h : L.val = c.val * 512 + l.val) (k : Fin 2048) : wIn m ρ c (ix2 k l) = W (ix2 k L) := by
  rw [wIn_eq, hW c, Layout.block_apply]
  refine congrArg W (funext fun a => Fin.ext ?_)
  fin_cases a
  · exact (Layout.idx_cols_val _ c (ix2 k l)).1
  · exact (Layout.idx_cols_val _ c (ix2 k l)).2.trans h.symm

/-- Device `c` ends with its columns of the reference's result. -/
theorem ending_eq
    (hpre : ∀ c : Dev nD, Cert.Pre_bounded_KernelIdeal.fn (F := Ideal) (m ((c : Thread nD τ).loc main_arg0)) (m ((c : Thread nD τ).loc main_arg1)) = fun _ => 1#1)
    (hX : ∀ c : Dev nD, m ((c : Thread nD τ).loc main_arg0) = Layout.block ⟨2, ![512, 2048]⟩ ⟨2, ![2048, 2048]⟩ 0 4 c X)
    (hW : ∀ c : Dev nD, m ((c : Thread nD τ).loc main_arg1) = Layout.block ⟨2, ![2048, 512]⟩ ⟨2, ![2048, 2048]⟩ 1 4 c W) (c : Dev nD) :
    ending m ρ c (2 : Fin 3) = Layout.block ⟨2, ![2048, 512]⟩ ⟨2, ![2048, 2048]⟩ 1 4 c (Cert.Bound.result X W) := by
  rw [ending_out]
  funext y
  rw [finalOut_at m ρ hX c y, Layout.block_apply]
  have hc : c.val < 4 := c.isLt
  have h0 : (y 0).val < 2048 := (y 0).isLt
  have h1 : (y 1).val < 512 := (y 1).isLt
  have hL : c.val * 512 + (y 1).val < 2048 := by omega
  have hd : (y 0).val / 512 < 4 := by omega
  have hr : (y 0).val % 512 < 512 := Nat.mod_lt _ (by decide)
  have hT : Layout.Tiles ⟨2, ![2048, 512]⟩ ⟨2, ![2048, 2048]⟩ 1 4 := by decide
  have hidx : hT.idx c y = ix2 (⟨(y 0).val, h0⟩ : Fin 2048) (⟨_, hL⟩ : Fin 2048) := by
    funext a
    refine Fin.ext ?_
    fin_cases a
    · exact (Layout.idx_cols_val _ c y).1
    · exact (Layout.idx_cols_val _ c y).2
  have hrow := (Cert.Bound.decode _ _ (hpre ⟨(y 0).val / 512, hd⟩)).1 ⟨(y 0).val % 512, hr⟩
  have hcol := (Cert.Bound.decode _ _ (hpre c)).2 ⟨(y 1).val, h1⟩
  rw [← xIn_eq m ρ] at hrow
  rw [← wIn_eq m ρ] at hcol
  have eX : ∀ k : Fin 2048, xIn m ρ (⟨(y 0).val / 512, hd⟩ : Dev nD) (ix2 (⟨(y 0).val % 512, hr⟩ : Fin 512) k) = X (ix2 (⟨(y 0).val, h0⟩ : Fin 2048) k) :=
    fun k => row_of m ρ hX _ _ _ (Nat.div_add_mod _ _).symm k
  have eW : ∀ k : Fin 2048, wIn m ρ c (ix2 k (⟨(y 1).val, h1⟩ : Fin 512)) = W (ix2 k (⟨_, hL⟩ : Fin 2048)) :=
    fun k => col_of m ρ hW c _ _ rfl k
  simp only [eX] at hrow
  simp only [eW] at hcol
  refine Eq.trans ?_ ((congrArg (Cert.Bound.result X W) hidx).trans (Cert.Bound.result_gate X W _ _ hrow hcol)).symm
  exact congrArg gate (Finset.sum_congr rfl fun k _ => congrArg (X (ix2 (y 0) k) * ·) (eW k))

end Cert.KernelIdealRun

end
-- ==== Proof.lean ====
/-
# The claim

The kernel's frame at both instances is its run with the values dropped, the reference's its host-only run, and the
equation is the kernel's run at the exact instance with the devices' results read as blocks of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_bounded_KernelIdeal
public import proofs.«01_k».proof.Proof.Gen.Pre_bounded_ReferenceIdeal
public import proofs.«01_k».proof.Proof.KernelLaunch
public import proofs.«01_k».proof.Proof.Equation
public import Idealize.ShloMosaic.Adequacy
public import Idealize.ShloMosaic.Init

@[expose] public section

noncomputable section

namespace Cert.Proof

open Idealize.ShloMosaic Idealize.SL.Sem

/-- The kernel, as its float operations are: it runs, leaves its arguments as they were and every counter at zero. -/
theorem kernel_frame : Cert.quiescent_Kernel := fun m g _ =>
  (θ_run Cert.Kernel.defs _ _).mono
    (fun _ h => ⟨fun c => ⟨(h.1 c (0 : Fin 3)).trans (Cert.KernelRun.ending_x m g c), (h.1 c (1 : Fin 3)).trans (Cert.KernelRun.ending_w m g c)⟩, h.2⟩)
    (Cert.KernelRun.run_main m g)

/-- The same at the exact instance. -/
theorem ideal_frame : Cert.quiescent_KernelIdeal := fun m g _ =>
  (θ_run Cert.KernelIdeal.defs _ _).mono
    (fun _ h => ⟨fun c => ⟨(h.1 c (0 : Fin 3)).trans (Cert.KernelIdealRun.ending_x m g c), (h.1 c (1 : Fin 3)).trans (Cert.KernelIdealRun.ending_w m g c)⟩, h.2⟩)
    (Cert.KernelIdealRun.run_main m g)

/-- The reference's frame: it runs on the host alone and names no counter. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The kernel's results are the blocks of the reference's. -/
theorem equation : Cert.algebraic_KernelIdeal_ReferenceIdeal_pre_bounded_KernelIdeal := by
  intro m g m' g' hpre hin
  refine ⟨_, (θ_run Cert.KernelIdeal.defs _ _).mono
      (fun r h c => ⟨(h.1 c (2 : Fin 3)).trans (Cert.KernelIdealRun.ending_eq m g hpre (fun c => (hin c).1) (fun c => (hin c).2) c),
        (h.1 c (0 : Fin 3)).trans (Cert.KernelIdealRun.ending_x m g c), (h.1 c (1 : Fin 3)).trans (Cert.KernelIdealRun.ending_w m g c)⟩)
      (Cert.KernelIdealRun.run_main m g),
    (θ_run Cert.ReferenceIdeal.defs _ _).mono (fun r h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_bounded_KernelIdeal.Gen.facts, Cert.Pre_bounded_ReferenceIdeal.Gen.facts,
  kernel_frame, ideal_frame, fun m g _ => ideal_frame m g trivial, reference_frame, fun m g _ => reference_frame m g trivial, trivial, equation⟩

end Cert.Proof

end
